-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096x4 : Shape := ⟨3, ![1024, 4096, 4]⟩
abbrev S1024x4x4096 : Shape := ⟨3, ![1024, 4, 4096]⟩
abbrev S1024x4096 : Shape := ⟨2, ![1024, 4096]⟩
abbrev S16x4x4096 : Shape := ⟨3, ![16, 4, 4096]⟩
abbrev S16x4096 : Shape := ⟨2, ![16, 4096]⟩
abbrev S16x1x4096 : Shape := ⟨3, ![16, 1, 4096]⟩
abbrev S4x4096 : Shape := ⟨2, ![4, 4096]⟩
abbrev S_ : Shape := ⟨0, ![]⟩
abbrev S16 : Shape := ⟨1, ![16]⟩
abbrev S1x16 : Shape := ⟨2, ![1, 16]⟩

abbrev nBuf : Table → Nat
  | .hbm => 4
  | .local .tc .vmem => 4
  | .local .scVector .vmem => 4
  | _ => 0

abbrev bufTy : (tb : Table) → Fin (nBuf tb) → BufTy
  | .hbm, ⟨0, _⟩ => ⟨S1024x4096x4, .f32⟩
  | .hbm, ⟨1, _⟩ => ⟨S1024x4x4096, .f32⟩
  | .hbm, ⟨2, _⟩ => ⟨S1024x4096, .i32⟩
  | .hbm, ⟨3, _⟩ => ⟨S1024x4096, .f32⟩
  | .local .tc .vmem, ⟨0, _⟩ => ⟨S16x4x4096, .f32⟩
  | .local .tc .vmem, ⟨1, _⟩ => ⟨S16x4x4096, .f32⟩
  | .local .tc .vmem, ⟨2, _⟩ => ⟨S16x4096, .i32⟩
  | .local .tc .vmem, ⟨3, _⟩ => ⟨S16x4096, .i32⟩
  | .local .scVector .vmem, ⟨0, _⟩ => ⟨S4x4096, .i32⟩
  | .local .scVector .vmem, ⟨1, _⟩ => ⟨S4x4096, .i32⟩
  | .local .scVector .vmem, ⟨2, _⟩ => ⟨S4x4096, .f32⟩
  | .local .scVector .vmem, ⟨3, _⟩ => ⟨S4x4096, .f32⟩
  | _, _ => ⟨S1024x4096x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v1_scv : Ref sig .scVector := ⟨.hbm, 2, rfl⟩
abbrev main_v2_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  ![v2.toNat, 0]
def k1_off2 (i : grid1.Coords) (c4_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v10 : BitVec 32 := Scalar.addi v2 c4_i32
  let c0_i32_2 : BitVec 32 := 0#32
  ![v10.toNat, 0]
def k1_off2_at (r : Fin 3) : BitVec 32 :=
  if r.val < 1 then
    4#32
  else
    if r.val < 2 then
      24#32
    else
      28#32
@[reducible] def k1_t1_loop : Scf.Loop 32 :=
  let c0_i32_4 : BitVec 32 := 0#32
  let c4_i32_5 : BitVec 32 := 4#32
  let v13 : BitVec 32 := Scalar.addi c0_i32_4 c4_i32_5
  let c1_i32 : BitVec 32 := 1#32
  ⟨c0_i32_4, v13, c1_i32⟩
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c0_i32_13 : BitVec 32 := 0#32
  let v22 : BitVec 32 := Scalar.addi v21 c0_i32_13
  let c4_i32_14 : BitVec 32 := 4#32
  let v23 : BitVec 32 := Scalar.muli v22 c4_i32_14
  let v24 : BitVec 32 := Scalar.addi v2 v23
  let c0_i32_15 : BitVec 32 := 0#32
  ![v24.toNat, 0]
def k1_cond1 (k1_t1 : Fin k1_t1_loop.trips) : BitVec 1 :=
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c0_i32_13 : BitVec 32 := 0#32
  let v22 : BitVec 32 := Scalar.addi v21 c0_i32_13
  let c2_i32_17 : BitVec 32 := 2#32
  let v27 : BitVec 1 := Scalar.cmpi .sge v22 c2_i32_17
  let v28 : BitVec 32 := Scalar.extui v27
  let c0_i32_18 : BitVec 32 := 0#32
  let v29 : BitVec 1 := Scalar.cmpi .ne v28 c0_i32_18
  v29

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c0_i32_13 : BitVec 32 := 0#32
  let v22 : BitVec 32 := Scalar.addi v21 c0_i32_13
  let c4_i32_14 : BitVec 32 := 4#32
  let v23 : BitVec 32 := Scalar.muli v22 c4_i32_14
  let v24 : BitVec 32 := Scalar.addi v2 v23
  let c8_i32_118 : BitVec 32 := 8#32
  let v90 : BitVec 32 := Scalar.subi v24 c8_i32_118
  let c0_i32_119 : BitVec 32 := 0#32
  ![v90.toNat, 0]
@[reducible] def k1_t2_loop : Scf.Loop 32 :=
  let c0_i32_20 : BitVec 32 := 0#32
  let c256_i32 : BitVec 32 := 256#32
  let v31 : BitVec 32 := Scalar.addi c0_i32_20 c256_i32
  let c1_i32_21 : BitVec 32 := 1#32
  ⟨c0_i32_20, v31, c1_i32_21⟩
def k1_off5 (k1_t2 : Fin k1_t2_loop.trips) : Fin 2 → Nat :=
  let c0_i32_119 : BitVec 32 := 0#32
  let v92 : Index := Scalar.indexCast c0_i32_119
  let c0_i32_118 : BitVec 32 := 0#32
  let c0_i32_20 : BitVec 32 := 0#32
  let c1_i32_21 : BitVec 32 := 1#32
  let arg13 : BitVec 32 := Scf.iv c0_i32_20 c1_i32_21 k1_t2
  let c16_i32 : BitVec 32 := 16#32
  let v90 : BitVec 32 := Scalar.muli arg13 c16_i32
  let v91 : BitVec 32 := Scalar.addi c0_i32_118 v90
  let v93 : Index := Scalar.indexCast v91
  ![0, v93.toNat]
@[reducible] def k1_t3_loop : Scf.Loop 32 :=
  let c0_i32_23 : BitVec 32 := 0#32
  let c255_i32 : BitVec 32 := 255#32
  let v32 : BitVec 32 := Scalar.addi c0_i32_23 c255_i32
  let c1_i32_24 : BitVec 32 := 1#32
  ⟨c0_i32_23, v32, c1_i32_24⟩
def k1_off6 (k1_t3 : Fin k1_t3_loop.trips) : Fin 2 → Nat :=
  let c0_i32_119 : BitVec 32 := 0#32
  let v92 : Index := Scalar.indexCast c0_i32_119
  let c0_i32_118 : BitVec 32 := 0#32
  let c0_i32_23 : BitVec 32 := 0#32
  let c1_i32_24 : BitVec 32 := 1#32
  let arg13 : BitVec 32 := Scf.iv c0_i32_23 c1_i32_24 k1_t3
  let c16_i32 : BitVec 32 := 16#32
  let v90 : BitVec 32 := Scalar.muli arg13 c16_i32
  let v91 : BitVec 32 := Scalar.addi c0_i32_118 v90
  let v93 : Index := Scalar.indexCast v91
  ![0, v93.toNat]

def k1_chk1 (v30 : IVec S16 32) (v94 : IVec S16 32) : Prop :=
  (∀ a x, ((![v30, v94] : Fin 2 → IVec S16 32) a x).toNat < S4x4096.size a)
theorem k1_idx1_inb : ∀ (v30 : IVec S16 32) (v94 : IVec S16 32) (k1_hw1 : k1_chk1 v30 v94), ∀ a x, ((![v30, v94] : Fin 2 → IVec S16 32) a x).toNat < S4x4096.size a := fun v30 v94 k1_hw1 => k1_hw1

def k1_chk2 (v30 : IVec S16 32) (v34 : IVec S16 32) : Prop :=
  (∀ a x, ((![v30, v34] : Fin 2 → IVec S16 32) a x).toNat < S4x4096.size a)
theorem k1_idx2_inb : ∀ (v30 : IVec S16 32) (v34 : IVec S16 32) (k1_hw2 : k1_chk2 v30 v34), ∀ a x, ((![v30, v34] : Fin 2 → IVec S16 32) a x).toNat < S4x4096.size a := fun v30 v34 k1_hw2 => k1_hw2
@[reducible] def k1_t4_loop : Scf.Loop 32 :=
  let c0_i32_28 : BitVec 32 := 0#32
  let c256_i32_29 : BitVec 32 := 256#32
  let v36 : BitVec 32 := Scalar.addi c0_i32_28 c256_i32_29
  let c1_i32_30 : BitVec 32 := 1#32
  ⟨c0_i32_28, v36, c1_i32_30⟩
def k1_off7 (k1_t4 : Fin k1_t4_loop.trips) : Fin 2 → Nat :=
  let c1_i32_119 : BitVec 32 := 1#32
  let v92 : Index := Scalar.indexCast c1_i32_119
  let c0_i32_118 : BitVec 32 := 0#32
  let c0_i32_28 : BitVec 32 := 0#32
  let c1_i32_30 : BitVec 32 := 1#32
  let arg13 : BitVec 32 := Scf.iv c0_i32_28 c1_i32_30 k1_t4
  let c16_i32 : BitVec 32 := 16#32
  let v90 : BitVec 32 := Scalar.muli arg13 c16_i32
  let v91 : BitVec 32 := Scalar.addi c0_i32_118 v90
  let v93 : Index := Scalar.indexCast v91
  ![1, v93.toNat]
@[reducible] def k1_t5_loop : Scf.Loop 32 :=
  let c0_i32_32 : BitVec 32 := 0#32
  let c255_i32_33 : BitVec 32 := 255#32
  let v37 : BitVec 32 := Scalar.addi c0_i32_32 c255_i32_33
  let c1_i32_34 : BitVec 32 := 1#32
  ⟨c0_i32_32, v37, c1_i32_34⟩
def k1_off8 (k1_t5 : Fin k1_t5_loop.trips) : Fin 2 → Nat :=
  let c1_i32_119 : BitVec 32 := 1#32
  let v92 : Index := Scalar.indexCast c1_i32_119
  let c0_i32_118 : BitVec 32 := 0#32
  let c0_i32_32 : BitVec 32 := 0#32
  let c1_i32_34 : BitVec 32 := 1#32
  let arg13 : BitVec 32 := Scf.iv c0_i32_32 c1_i32_34 k1_t5
  let c16_i32 : BitVec 32 := 16#32
  let v90 : BitVec 32 := Scalar.muli arg13 c16_i32
  let v91 : BitVec 32 := Scalar.addi c0_i32_118 v90
  let v93 : Index := Scalar.indexCast v91
  ![1, v93.toNat]

def k1_chk3 (v35 : IVec S16 32) (v94 : IVec S16 32) : Prop :=
  (∀ a x, ((![v35, v94] : Fin 2 → IVec S16 32) a x).toNat < S4x4096.size a)
theorem k1_idx3_inb : ∀ (v35 : IVec S16 32) (v94 : IVec S16 32) (k1_hw3 : k1_chk3 v35 v94), ∀ a x, ((![v35, v94] : Fin 2 → IVec S16 32) a x).toNat < S4x4096.size a := fun v35 v94 k1_hw3 => k1_hw3

def k1_chk4 (v35 : IVec S16 32) (v39 : IVec S16 32) : Prop :=
  (∀ a x, ((![v35, v39] : Fin 2 → IVec S16 32) a x).toNat < S4x4096.size a)
theorem k1_idx4_inb : ∀ (v35 : IVec S16 32) (v39 : IVec S16 32) (k1_hw4 : k1_chk4 v35 v39), ∀ a x, ((![v35, v39] : Fin 2 → IVec S16 32) a x).toNat < S4x4096.size a := fun v35 v39 k1_hw4 => k1_hw4
@[reducible] def k1_t6_loop : Scf.Loop 32 :=
  let c0_i32_39 : BitVec 32 := 0#32
  let c256_i32_40 : BitVec 32 := 256#32
  let v41 : BitVec 32 := Scalar.addi c0_i32_39 c256_i32_40
  let c1_i32_41 : BitVec 32 := 1#32
  ⟨c0_i32_39, v41, c1_i32_41⟩
def k1_off9 (k1_t6 : Fin k1_t6_loop.trips) : Fin 2 → Nat :=
  let c2_i32_119 : BitVec 32 := 2#32
  let v92 : Index := Scalar.indexCast c2_i32_119
  let c0_i32_118 : BitVec 32 := 0#32
  let c0_i32_39 : BitVec 32 := 0#32
  let c1_i32_41 : BitVec 32 := 1#32
  let arg13 : BitVec 32 := Scf.iv c0_i32_39 c1_i32_41 k1_t6
  let c16_i32 : BitVec 32 := 16#32
  let v90 : BitVec 32 := Scalar.muli arg13 c16_i32
  let v91 : BitVec 32 := Scalar.addi c0_i32_118 v90
  let v93 : Index := Scalar.indexCast v91
  ![2, v93.toNat]
@[reducible] def k1_t7_loop : Scf.Loop 32 :=
  let c0_i32_43 : BitVec 32 := 0#32
  let c255_i32_44 : BitVec 32 := 255#32
  let v42 : BitVec 32 := Scalar.addi c0_i32_43 c255_i32_44
  let c1_i32_45 : BitVec 32 := 1#32
  ⟨c0_i32_43, v42, c1_i32_45⟩
def k1_off10 (k1_t7 : Fin k1_t7_loop.trips) : Fin 2 → Nat :=
  let c2_i32_119 : BitVec 32 := 2#32
  let v92 : Index := Scalar.indexCast c2_i32_119
  let c0_i32_118 : BitVec 32 := 0#32
  let c0_i32_43 : BitVec 32 := 0#32
  let c1_i32_45 : BitVec 32 := 1#32
  let arg13 : BitVec 32 := Scf.iv c0_i32_43 c1_i32_45 k1_t7
  let c16_i32 : BitVec 32 := 16#32
  let v90 : BitVec 32 := Scalar.muli arg13 c16_i32
  let v91 : BitVec 32 := Scalar.addi c0_i32_118 v90
  let v93 : Index := Scalar.indexCast v91
  ![2, v93.toNat]

def k1_chk5 (v40 : IVec S16 32) (v94 : IVec S16 32) : Prop :=
  (∀ a x, ((![v40, v94] : Fin 2 → IVec S16 32) a x).toNat < S4x4096.size a)
theorem k1_idx5_inb : ∀ (v40 : IVec S16 32) (v94 : IVec S16 32) (k1_hw5 : k1_chk5 v40 v94), ∀ a x, ((![v40, v94] : Fin 2 → IVec S16 32) a x).toNat < S4x4096.size a := fun v40 v94 k1_hw5 => k1_hw5

def k1_chk6 (v40 : IVec S16 32) (v44 : IVec S16 32) : Prop :=
  (∀ a x, ((![v40, v44] : Fin 2 → IVec S16 32) a x).toNat < S4x4096.size a)
theorem k1_idx6_inb : ∀ (v40 : IVec S16 32) (v44 : IVec S16 32) (k1_hw6 : k1_chk6 v40 v44), ∀ a x, ((![v40, v44] : Fin 2 → IVec S16 32) a x).toNat < S4x4096.size a := fun v40 v44 k1_hw6 => k1_hw6
@[reducible] def k1_t8_loop : Scf.Loop 32 :=
  let c0_i32_49 : BitVec 32 := 0#32
  let c256_i32_50 : BitVec 32 := 256#32
  let v46 : BitVec 32 := Scalar.addi c0_i32_49 c256_i32_50
  let c1_i32_51 : BitVec 32 := 1#32
  ⟨c0_i32_49, v46, c1_i32_51⟩
def k1_off11 (k1_t8 : Fin k1_t8_loop.trips) : Fin 2 → Nat :=
  let c3_i32_119 : BitVec 32 := 3#32
  let v92 : Index := Scalar.indexCast c3_i32_119
  let c0_i32_118 : BitVec 32 := 0#32
  let c0_i32_49 : BitVec 32 := 0#32
  let c1_i32_51 : BitVec 32 := 1#32
  let arg13 : BitVec 32 := Scf.iv c0_i32_49 c1_i32_51 k1_t8
  let c16_i32 : BitVec 32 := 16#32
  let v90 : BitVec 32 := Scalar.muli arg13 c16_i32
  let v91 : BitVec 32 := Scalar.addi c0_i32_118 v90
  let v93 : Index := Scalar.indexCast v91
  ![3, v93.toNat]
@[reducible] def k1_t9_loop : Scf.Loop 32 :=
  let c0_i32_53 : BitVec 32 := 0#32
  let c255_i32_54 : BitVec 32 := 255#32
  let v47 : BitVec 32 := Scalar.addi c0_i32_53 c255_i32_54
  let c1_i32_55 : BitVec 32 := 1#32
  ⟨c0_i32_53, v47, c1_i32_55⟩
def k1_off12 (k1_t9 : Fin k1_t9_loop.trips) : Fin 2 → Nat :=
  let c3_i32_119 : BitVec 32 := 3#32
  let v92 : Index := Scalar.indexCast c3_i32_119
  let c0_i32_118 : BitVec 32 := 0#32
  let c0_i32_53 : BitVec 32 := 0#32
  let c1_i32_55 : BitVec 32 := 1#32
  let arg13 : BitVec 32 := Scf.iv c0_i32_53 c1_i32_55 k1_t9
  let c16_i32 : BitVec 32 := 16#32
  let v90 : BitVec 32 := Scalar.muli arg13 c16_i32
  let v91 : BitVec 32 := Scalar.addi c0_i32_118 v90
  let v93 : Index := Scalar.indexCast v91
  ![3, v93.toNat]

def k1_chk7 (v45 : IVec S16 32) (v94 : IVec S16 32) : Prop :=
  (∀ a x, ((![v45, v94] : Fin 2 → IVec S16 32) a x).toNat < S4x4096.size a)
theorem k1_idx7_inb : ∀ (v45 : IVec S16 32) (v94 : IVec S16 32) (k1_hw7 : k1_chk7 v45 v94), ∀ a x, ((![v45, v94] : Fin 2 → IVec S16 32) a x).toNat < S4x4096.size a := fun v45 v94 k1_hw7 => k1_hw7

def k1_chk8 (v45 : IVec S16 32) (v49 : IVec S16 32) : Prop :=
  (∀ a x, ((![v45, v49] : Fin 2 → IVec S16 32) a x).toNat < S4x4096.size a)
theorem k1_idx8_inb : ∀ (v45 : IVec S16 32) (v49 : IVec S16 32) (k1_hw8 : k1_chk8 v45 v49), ∀ a x, ((![v45, v49] : Fin 2 → IVec S16 32) a x).toNat < S4x4096.size a := fun v45 v49 k1_hw8 => k1_hw8
def k1_off13 (i : grid1.Coords) (k1_t1 : Fin k1_t1_loop.trips) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let v22 : BitVec 32 := Scalar.addi v21 c0_i32_13
  let c4_i32_14 : BitVec 32 := 4#32
  let v23 : BitVec 32 := Scalar.muli v22 c4_i32_14
  let v24 : BitVec 32 := Scalar.addi v2 v23
  let c0_i32_59 : BitVec 32 := 0#32
  ![v24.toNat, 0]
def k1_cond2 (k1_t1 : Fin k1_t1_loop.trips) : BitVec 1 :=
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c0_i32_13 : BitVec 32 := 0#32
  let v22 : BitVec 32 := Scalar.addi v21 c0_i32_13
  let c2_i32_61 : BitVec 32 := 2#32
  let v52 : BitVec 32 := Scalar.addi v22 c2_i32_61
  let c8_i32 : BitVec 32 := 8#32
  let v53 : BitVec 1 := Scalar.cmpi .slt v52 c8_i32
  let v54 : BitVec 32 := Scalar.extui v53
  let c0_i32_62 : BitVec 32 := 0#32
  let v55 : BitVec 1 := Scalar.cmpi .ne v54 c0_i32_62
  v55

def k1_off14 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c0_i32_13 : BitVec 32 := 0#32
  let v22 : BitVec 32 := Scalar.addi v21 c0_i32_13
  let c4_i32_14 : BitVec 32 := 4#32
  let v23 : BitVec 32 := Scalar.muli v22 c4_i32_14
  let v24 : BitVec 32 := Scalar.addi v2 v23
  let c8_i32_118 : BitVec 32 := 8#32
  let v90 : BitVec 32 := Scalar.addi v24 c8_i32_118
  let c0_i32_119 : BitVec 32 := 0#32
  ![v90.toNat, 0]
def k1_cond3 (k1_t1 : Fin k1_t1_loop.trips) : BitVec 1 :=
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c1_i32_63 : BitVec 32 := 1#32
  let v56 : BitVec 32 := Scalar.addi v21 c1_i32_63
  let c2_i32_67 : BitVec 32 := 2#32
  let v61 : BitVec 1 := Scalar.cmpi .sge v56 c2_i32_67
  let v62 : BitVec 32 := Scalar.extui v61
  let c0_i32_68 : BitVec 32 := 0#32
  let v63 : BitVec 1 := Scalar.cmpi .ne v62 c0_i32_68
  v63

def k1_off15 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c1_i32_63 : BitVec 32 := 1#32
  let v56 : BitVec 32 := Scalar.addi v21 c1_i32_63
  let c4_i32_64 : BitVec 32 := 4#32
  let v57 : BitVec 32 := Scalar.muli v56 c4_i32_64
  let v58 : BitVec 32 := Scalar.addi v2 v57
  let c8_i32_118 : BitVec 32 := 8#32
  let v90 : BitVec 32 := Scalar.subi v58 c8_i32_118
  let c0_i32_119 : BitVec 32 := 0#32
  ![v90.toNat, 0]
@[reducible] def k1_t10_loop : Scf.Loop 32 :=
  let c0_i32_70 : BitVec 32 := 0#32
  let c256_i32_71 : BitVec 32 := 256#32
  let v65 : BitVec 32 := Scalar.addi c0_i32_70 c256_i32_71
  let c1_i32_72 : BitVec 32 := 1#32
  ⟨c0_i32_70, v65, c1_i32_72⟩
def k1_off16 (k1_t10 : Fin k1_t10_loop.trips) : Fin 2 → Nat :=
  let c0_i32_119 : BitVec 32 := 0#32
  let v92 : Index := Scalar.indexCast c0_i32_119
  let c0_i32_118 : BitVec 32 := 0#32
  let c0_i32_70 : BitVec 32 := 0#32
  let c1_i32_72 : BitVec 32 := 1#32
  let arg13 : BitVec 32 := Scf.iv c0_i32_70 c1_i32_72 k1_t10
  let c16_i32 : BitVec 32 := 16#32
  let v90 : BitVec 32 := Scalar.muli arg13 c16_i32
  let v91 : BitVec 32 := Scalar.addi c0_i32_118 v90
  let v93 : Index := Scalar.indexCast v91
  ![0, v93.toNat]
@[reducible] def k1_t11_loop : Scf.Loop 32 :=
  let c0_i32_74 : BitVec 32 := 0#32
  let c255_i32_75 : BitVec 32 := 255#32
  let v66 : BitVec 32 := Scalar.addi c0_i32_74 c255_i32_75
  let c1_i32_76 : BitVec 32 := 1#32
  ⟨c0_i32_74, v66, c1_i32_76⟩
def k1_off17 (k1_t11 : Fin k1_t11_loop.trips) : Fin 2 → Nat :=
  let c0_i32_119 : BitVec 32 := 0#32
  let v92 : Index := Scalar.indexCast c0_i32_119
  let c0_i32_118 : BitVec 32 := 0#32
  let c0_i32_74 : BitVec 32 := 0#32
  let c1_i32_76 : BitVec 32 := 1#32
  let arg13 : BitVec 32 := Scf.iv c0_i32_74 c1_i32_76 k1_t11
  let c16_i32 : BitVec 32 := 16#32
  let v90 : BitVec 32 := Scalar.muli arg13 c16_i32
  let v91 : BitVec 32 := Scalar.addi c0_i32_118 v90
  let v93 : Index := Scalar.indexCast v91
  ![0, v93.toNat]

def k1_chk9 (v64 : IVec S16 32) (v94 : IVec S16 32) : Prop :=
  (∀ a x, ((![v64, v94] : Fin 2 → IVec S16 32) a x).toNat < S4x4096.size a)
theorem k1_idx9_inb : ∀ (v64 : IVec S16 32) (v94 : IVec S16 32) (k1_hw9 : k1_chk9 v64 v94), ∀ a x, ((![v64, v94] : Fin 2 → IVec S16 32) a x).toNat < S4x4096.size a := fun v64 v94 k1_hw9 => k1_hw9

def k1_chk10 (v64 : IVec S16 32) (v68 : IVec S16 32) : Prop :=
  (∀ a x, ((![v64, v68] : Fin 2 → IVec S16 32) a x).toNat < S4x4096.size a)
theorem k1_idx10_inb : ∀ (v64 : IVec S16 32) (v68 : IVec S16 32) (k1_hw10 : k1_chk10 v64 v68), ∀ a x, ((![v64, v68] : Fin 2 → IVec S16 32) a x).toNat < S4x4096.size a := fun v64 v68 k1_hw10 => k1_hw10
@[reducible] def k1_t12_loop : Scf.Loop 32 :=
  let c0_i32_81 : BitVec 32 := 0#32
  let c256_i32_82 : BitVec 32 := 256#32
  let v70 : BitVec 32 := Scalar.addi c0_i32_81 c256_i32_82
  let c1_i32_83 : BitVec 32 := 1#32
  ⟨c0_i32_81, v70, c1_i32_83⟩
def k1_off18 (k1_t12 : Fin k1_t12_loop.trips) : Fin 2 → Nat :=
  let c1_i32_119 : BitVec 32 := 1#32
  let v92 : Index := Scalar.indexCast c1_i32_119
  let c0_i32_118 : BitVec 32 := 0#32
  let c0_i32_81 : BitVec 32 := 0#32
  let c1_i32_83 : BitVec 32 := 1#32
  let arg13 : BitVec 32 := Scf.iv c0_i32_81 c1_i32_83 k1_t12
  let c16_i32 : BitVec 32 := 16#32
  let v90 : BitVec 32 := Scalar.muli arg13 c16_i32
  let v91 : BitVec 32 := Scalar.addi c0_i32_118 v90
  let v93 : Index := Scalar.indexCast v91
  ![1, v93.toNat]
@[reducible] def k1_t13_loop : Scf.Loop 32 :=
  let c0_i32_85 : BitVec 32 := 0#32
  let c255_i32_86 : BitVec 32 := 255#32
  let v71 : BitVec 32 := Scalar.addi c0_i32_85 c255_i32_86
  let c1_i32_87 : BitVec 32 := 1#32
  ⟨c0_i32_85, v71, c1_i32_87⟩
def k1_off19 (k1_t13 : Fin k1_t13_loop.trips) : Fin 2 → Nat :=
  let c1_i32_119 : BitVec 32 := 1#32
  let v92 : Index := Scalar.indexCast c1_i32_119
  let c0_i32_118 : BitVec 32 := 0#32
  let c0_i32_85 : BitVec 32 := 0#32
  let c1_i32_87 : BitVec 32 := 1#32
  let arg13 : BitVec 32 := Scf.iv c0_i32_85 c1_i32_87 k1_t13
  let c16_i32 : BitVec 32 := 16#32
  let v90 : BitVec 32 := Scalar.muli arg13 c16_i32
  let v91 : BitVec 32 := Scalar.addi c0_i32_118 v90
  let v93 : Index := Scalar.indexCast v91
  ![1, v93.toNat]

def k1_chk11 (v69 : IVec S16 32) (v94 : IVec S16 32) : Prop :=
  (∀ a x, ((![v69, v94] : Fin 2 → IVec S16 32) a x).toNat < S4x4096.size a)
theorem k1_idx11_inb : ∀ (v69 : IVec S16 32) (v94 : IVec S16 32) (k1_hw11 : k1_chk11 v69 v94), ∀ a x, ((![v69, v94] : Fin 2 → IVec S16 32) a x).toNat < S4x4096.size a := fun v69 v94 k1_hw11 => k1_hw11

def k1_chk12 (v69 : IVec S16 32) (v73 : IVec S16 32) : Prop :=
  (∀ a x, ((![v69, v73] : Fin 2 → IVec S16 32) a x).toNat < S4x4096.size a)
theorem k1_idx12_inb : ∀ (v69 : IVec S16 32) (v73 : IVec S16 32) (k1_hw12 : k1_chk12 v69 v73), ∀ a x, ((![v69, v73] : Fin 2 → IVec S16 32) a x).toNat < S4x4096.size a := fun v69 v73 k1_hw12 => k1_hw12
@[reducible] def k1_t14_loop : Scf.Loop 32 :=
  let c0_i32_92 : BitVec 32 := 0#32
  let c256_i32_93 : BitVec 32 := 256#32
  let v75 : BitVec 32 := Scalar.addi c0_i32_92 c256_i32_93
  let c1_i32_94 : BitVec 32 := 1#32
  ⟨c0_i32_92, v75, c1_i32_94⟩
def k1_off20 (k1_t14 : Fin k1_t14_loop.trips) : Fin 2 → Nat :=
  let c2_i32_119 : BitVec 32 := 2#32
  let v92 : Index := Scalar.indexCast c2_i32_119
  let c0_i32_118 : BitVec 32 := 0#32
  let c0_i32_92 : BitVec 32 := 0#32
  let c1_i32_94 : BitVec 32 := 1#32
  let arg13 : BitVec 32 := Scf.iv c0_i32_92 c1_i32_94 k1_t14
  let c16_i32 : BitVec 32 := 16#32
  let v90 : BitVec 32 := Scalar.muli arg13 c16_i32
  let v91 : BitVec 32 := Scalar.addi c0_i32_118 v90
  let v93 : Index := Scalar.indexCast v91
  ![2, v93.toNat]
@[reducible] def k1_t15_loop : Scf.Loop 32 :=
  let c0_i32_96 : BitVec 32 := 0#32
  let c255_i32_97 : BitVec 32 := 255#32
  let v76 : BitVec 32 := Scalar.addi c0_i32_96 c255_i32_97
  let c1_i32_98 : BitVec 32 := 1#32
  ⟨c0_i32_96, v76, c1_i32_98⟩
def k1_off21 (k1_t15 : Fin k1_t15_loop.trips) : Fin 2 → Nat :=
  let c2_i32_119 : BitVec 32 := 2#32
  let v92 : Index := Scalar.indexCast c2_i32_119
  let c0_i32_118 : BitVec 32 := 0#32
  let c0_i32_96 : BitVec 32 := 0#32
  let c1_i32_98 : BitVec 32 := 1#32
  let arg13 : BitVec 32 := Scf.iv c0_i32_96 c1_i32_98 k1_t15
  let c16_i32 : BitVec 32 := 16#32
  let v90 : BitVec 32 := Scalar.muli arg13 c16_i32
  let v91 : BitVec 32 := Scalar.addi c0_i32_118 v90
  let v93 : Index := Scalar.indexCast v91
  ![2, v93.toNat]

def k1_chk13 (v74 : IVec S16 32) (v94 : IVec S16 32) : Prop :=
  (∀ a x, ((![v74, v94] : Fin 2 → IVec S16 32) a x).toNat < S4x4096.size a)
theorem k1_idx13_inb : ∀ (v74 : IVec S16 32) (v94 : IVec S16 32) (k1_hw13 : k1_chk13 v74 v94), ∀ a x, ((![v74, v94] : Fin 2 → IVec S16 32) a x).toNat < S4x4096.size a := fun v74 v94 k1_hw13 => k1_hw13

def k1_chk14 (v74 : IVec S16 32) (v78 : IVec S16 32) : Prop :=
  (∀ a x, ((![v74, v78] : Fin 2 → IVec S16 32) a x).toNat < S4x4096.size a)
theorem k1_idx14_inb : ∀ (v74 : IVec S16 32) (v78 : IVec S16 32) (k1_hw14 : k1_chk14 v74 v78), ∀ a x, ((![v74, v78] : Fin 2 → IVec S16 32) a x).toNat < S4x4096.size a := fun v74 v78 k1_hw14 => k1_hw14
@[reducible] def k1_t16_loop : Scf.Loop 32 :=
  let c0_i32_103 : BitVec 32 := 0#32
  let c256_i32_104 : BitVec 32 := 256#32
  let v80 : BitVec 32 := Scalar.addi c0_i32_103 c256_i32_104
  let c1_i32_105 : BitVec 32 := 1#32
  ⟨c0_i32_103, v80, c1_i32_105⟩
def k1_off22 (k1_t16 : Fin k1_t16_loop.trips) : Fin 2 → Nat :=
  let c3_i32_119 : BitVec 32 := 3#32
  let v92 : Index := Scalar.indexCast c3_i32_119
  let c0_i32_118 : BitVec 32 := 0#32
  let c0_i32_103 : BitVec 32 := 0#32
  let c1_i32_105 : BitVec 32 := 1#32
  let arg13 : BitVec 32 := Scf.iv c0_i32_103 c1_i32_105 k1_t16
  let c16_i32 : BitVec 32 := 16#32
  let v90 : BitVec 32 := Scalar.muli arg13 c16_i32
  let v91 : BitVec 32 := Scalar.addi c0_i32_118 v90
  let v93 : Index := Scalar.indexCast v91
  ![3, v93.toNat]
@[reducible] def k1_t17_loop : Scf.Loop 32 :=
  let c0_i32_107 : BitVec 32 := 0#32
  let c255_i32_108 : BitVec 32 := 255#32
  let v81 : BitVec 32 := Scalar.addi c0_i32_107 c255_i32_108
  let c1_i32_109 : BitVec 32 := 1#32
  ⟨c0_i32_107, v81, c1_i32_109⟩
def k1_off23 (k1_t17 : Fin k1_t17_loop.trips) : Fin 2 → Nat :=
  let c3_i32_119 : BitVec 32 := 3#32
  let v92 : Index := Scalar.indexCast c3_i32_119
  let c0_i32_118 : BitVec 32 := 0#32
  let c0_i32_107 : BitVec 32 := 0#32
  let c1_i32_109 : BitVec 32 := 1#32
  let arg13 : BitVec 32 := Scf.iv c0_i32_107 c1_i32_109 k1_t17
  let c16_i32 : BitVec 32 := 16#32
  let v90 : BitVec 32 := Scalar.muli arg13 c16_i32
  let v91 : BitVec 32 := Scalar.addi c0_i32_118 v90
  let v93 : Index := Scalar.indexCast v91
  ![3, v93.toNat]

def k1_chk15 (v79 : IVec S16 32) (v94 : IVec S16 32) : Prop :=
  (∀ a x, ((![v79, v94] : Fin 2 → IVec S16 32) a x).toNat < S4x4096.size a)
theorem k1_idx15_inb : ∀ (v79 : IVec S16 32) (v94 : IVec S16 32) (k1_hw15 : k1_chk15 v79 v94), ∀ a x, ((![v79, v94] : Fin 2 → IVec S16 32) a x).toNat < S4x4096.size a := fun v79 v94 k1_hw15 => k1_hw15

def k1_chk16 (v79 : IVec S16 32) (v83 : IVec S16 32) : Prop :=
  (∀ a x, ((![v79, v83] : Fin 2 → IVec S16 32) a x).toNat < S4x4096.size a)
theorem k1_idx16_inb : ∀ (v79 : IVec S16 32) (v83 : IVec S16 32) (k1_hw16 : k1_chk16 v79 v83), ∀ a x, ((![v79, v83] : Fin 2 → IVec S16 32) a x).toNat < S4x4096.size a := fun v79 v83 k1_hw16 => k1_hw16
def k1_off24 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c1_i32_63 : BitVec 32 := 1#32
  let v56 : BitVec 32 := Scalar.addi v21 c1_i32_63
  let c4_i32_64 : BitVec 32 := 4#32
  let v57 : BitVec 32 := Scalar.muli v56 c4_i32_64
  let v58 : BitVec 32 := Scalar.addi v2 v57
  let c0_i32_113 : BitVec 32 := 0#32
  ![v58.toNat, 0]
def k1_cond4 (k1_t1 : Fin k1_t1_loop.trips) : BitVec 1 :=
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c1_i32_63 : BitVec 32 := 1#32
  let v56 : BitVec 32 := Scalar.addi v21 c1_i32_63
  let c2_i32_115 : BitVec 32 := 2#32
  let v86 : BitVec 32 := Scalar.addi v56 c2_i32_115
  let c8_i32_116 : BitVec 32 := 8#32
  let v87 : BitVec 1 := Scalar.cmpi .slt v86 c8_i32_116
  let v88 : BitVec 32 := Scalar.extui v87
  let c0_i32_117 : BitVec 32 := 0#32
  let v89 : BitVec 1 := Scalar.cmpi .ne v88 c0_i32_117
  v89

def k1_off25 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c0_i32_4 : BitVec 32 := 0#32
  let c1_i32 : BitVec 32 := 1#32
  let arg12 : BitVec 32 := Scf.iv c0_i32_4 c1_i32 k1_t1
  let c2_i32_11 : BitVec 32 := 2#32
  let v20 : BitVec 32 := Scalar.muli arg12 c2_i32_11
  let v21 : BitVec 32 := Scalar.addi c0_i32_12 v20
  let c1_i32_63 : BitVec 32 := 1#32
  let v56 : BitVec 32 := Scalar.addi v21 c1_i32_63
  let c4_i32_64 : BitVec 32 := 4#32
  let v57 : BitVec 32 := Scalar.muli v56 c4_i32_64
  let v58 : BitVec 32 := Scalar.addi v2 v57
  let c8_i32_118 : BitVec 32 := 8#32
  let v90 : BitVec 32 := Scalar.addi v58 c8_i32_118
  let c0_i32_119 : BitVec 32 := 0#32
  ![v90.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x4096x4 : Shape := ⟨3, ![1024, 4096, 4]⟩
abbrev S_ : Shape := ⟨0, ![]⟩
abbrev S1024x4096 : Shape := ⟨2, ![1024, 4096]⟩
abbrev S1024x4091 : Shape := ⟨2, ![1024, 4091]⟩
abbrev S1024 : Shape := ⟨1, ![1024]⟩
abbrev S1024x1 : Shape := ⟨2, ![1024, 1]⟩
abbrev S1024x4091x1 : Shape := ⟨3, ![1024, 4091, 1]⟩
abbrev S1024x4091x2 : Shape := ⟨3, ![1024, 4091, 2]⟩

abbrev nBuf : Space → Nat
  | .hbm => 63
  | .vmem => 0
  | .smem => 0
  | _ => 0

abbrev bufTy : (tb : Table) → Fin (tcTables nBuf tb) → BufTy
  | .hbm, ⟨0, _⟩ => ⟨S1024x4096x4, .f32⟩
  | .hbm, ⟨1, _⟩ => ⟨S1024x4096x4, .i32⟩
  | .hbm, ⟨2, _⟩ => ⟨S_, .f32⟩
  | .hbm, ⟨3, _⟩ => ⟨S_, .i32⟩
  | .hbm, ⟨4, _⟩ => ⟨S1024x4096, .f32⟩
  | .hbm, ⟨5, _⟩ => ⟨S1024x4096, .i32⟩
  | .hbm, ⟨6, _⟩ => ⟨S_, .i32⟩
  | .hbm, ⟨7, _⟩ => ⟨S1024x4091, .i32⟩
  | .hbm, ⟨8, _⟩ => ⟨S1024x4091, .i32⟩
  | .hbm, ⟨9, _⟩ => ⟨S_, .i32⟩
  | .hbm, ⟨10, _⟩ => ⟨S1024x4091, .i32⟩
  | .hbm, ⟨11, _⟩ => ⟨S1024x4091, .i32⟩
  | .hbm, ⟨12, _⟩ => ⟨S1024x4091, .i32⟩
  | .hbm, ⟨13, _⟩ => ⟨S1024x4091, .i32⟩
  | .hbm, ⟨14, _⟩ => ⟨S_, .i32⟩
  | .hbm, ⟨15, _⟩ => ⟨S1024x4091, .i32⟩
  | .hbm, ⟨16, _⟩ => ⟨S1024x4091, .i32⟩
  | .hbm, ⟨17, _⟩ => ⟨S1024x4091, .i32⟩
  | .hbm, ⟨18, _⟩ => ⟨S1024x4091, .i32⟩
  | .hbm, ⟨19, _⟩ => ⟨S_, .i32⟩
  | .hbm, ⟨20, _⟩ => ⟨S1024x4091, .i32⟩
  | .hbm, ⟨21, _⟩ => ⟨S1024x4091, .i32⟩
  | .hbm, ⟨22, _⟩ => ⟨S1024x4091, .i32⟩
  | .hbm, ⟨23, _⟩ => ⟨S1024x4091, .i32⟩
  | .hbm, ⟨24, _⟩ => ⟨S_, .i32⟩
  | .hbm, ⟨25, _⟩ => ⟨S1024x4091, .i32⟩
  | .hbm, ⟨26, _⟩ => ⟨S1024x4091, .i32⟩
  | .hbm, ⟨27, _⟩ => ⟨S1024x4091, .i32⟩
  | .hbm, ⟨28, _⟩ => ⟨S1024x4091, .i32⟩
  | .hbm, ⟨29, _⟩ => ⟨S_, .i32⟩
  | .hbm, ⟨30, _⟩ => ⟨S1024x4091, .i32⟩
  | .hbm, ⟨31, _⟩ => ⟨S1024x4091, .i32⟩
  | .hbm, ⟨32, _⟩ => ⟨S1024x4091, .i32⟩
  | .hbm, ⟨33, _⟩ => ⟨S1024x4091, .i32⟩
  | .hbm, ⟨34, _⟩ => ⟨S_, .i32⟩
  | .hbm, ⟨35, _⟩ => ⟨S1024x4091, .i32⟩
  | .hbm, ⟨36, _⟩ => ⟨S1024x4091, .i32⟩
  | .hbm, ⟨37, _⟩ => ⟨S1024x4091, .i32⟩
  | .hbm, ⟨38, _⟩ => ⟨S1024, .i32⟩
  | .hbm, ⟨39, _⟩ => ⟨S1024x1, .i32⟩
  | .hbm, ⟨40, _⟩ => ⟨S_, .f32⟩
  | .hbm, ⟨41, _⟩ => ⟨S1024x4096, .f32⟩
  | .hbm, ⟨42, _⟩ => ⟨S_, .i32⟩
  | .hbm, ⟨43, _⟩ => ⟨S1024x1, .i32⟩
  | .hbm, ⟨44, _⟩ => ⟨S1024x1, .i1⟩
  | .hbm, ⟨45, _⟩ => ⟨S_, .i32⟩
  | .hbm, ⟨46, _⟩ => ⟨S1024x1, .i32⟩
  | .hbm, ⟨47, _⟩ => ⟨S1024x1, .i32⟩
  | .hbm, ⟨48, _⟩ => ⟨S1024x1, .i32⟩
  | .hbm, ⟨49, _⟩ => ⟨S_, .i32⟩
  | .hbm, ⟨50, _⟩ => ⟨S1024x4091, .i32⟩
  | .hbm, ⟨51, _⟩ => ⟨S1024x4091, .i1⟩
  | .hbm, ⟨52, _⟩ => ⟨S_, .i32⟩
  | .hbm, ⟨53, _⟩ => ⟨S1024x4091, .i32⟩
  | .hbm, ⟨54, _⟩ => ⟨S1024x4091, .i32⟩
  | .hbm, ⟨55, _⟩ => ⟨S1024x4091, .i32⟩
  | .hbm, ⟨56, _⟩ => ⟨S1024x4091, .i32⟩
  | .hbm, ⟨57, _⟩ => ⟨S1024x4091x1, .i32⟩
  | .hbm, ⟨58, _⟩ => ⟨S1024x4091x1, .i32⟩
  | .hbm, ⟨59, _⟩ => ⟨S1024x4091x2, .i32⟩
  | .hbm, ⟨60, _⟩ => ⟨S_, .f32⟩
  | .hbm, ⟨61, _⟩ => ⟨S1024x4091, .f32⟩
  | .hbm, ⟨62, _⟩ => ⟨S1024x4096, .f32⟩
  | _, _ => ⟨S1024x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.Hist.lean ====
/-
  The arithmetic of one row's histogram, apart from any program: `bump km j n` is bin `j` after the first `n` entries of
  the row `km` have been added, one at a time and in order, each adding one to its bin. It is stated over any element
  type with float operations, because the tile's scatter-add performs exactly these additions in exactly this order.
  Below it: what the indexed store with addition does to a 4x4096 block when one vector of sixteen row entries is
  scattered into one row (`storeIdx_row`), and the three states a row goes through (zeroed, partly counted, done) with
  the three steps between them.
-/
module

public import proofs.«01_k».proof.Proof.Gen.KernelIdeal.Skeleton

@[expose] public section

noncomputable section

namespace Cert.Proof.Hist

open Cert.KernelIdeal Cert.KernelIdeal.Gen Idealize.ShloMosaic

variable {F : FTy → Type} [FloatOps F]

/-- The kernel's zero and one. -/
abbrev zeroF : F .f32 := Scalar.ofBits .f32 0x00000000#32
abbrev oneF : F .f32 := Scalar.ofBits .f32 0x3F800000#32

/-- Bin `j` after the first `n` entries of the row `km`. -/
def bump (km : ℕ → ℕ) (j : ℕ) : ℕ → F .f32
  | 0 => zeroF
  | n + 1 => if km n = j then FloatOps.idxAddf (bump km j n) oneF else bump km j n

theorem bump_congr {km km' : ℕ → ℕ} (j : ℕ) {n : ℕ} (h : ∀ i < n, km i = km' i) :
    bump (F := F) km j n = bump km' j n := by
  induction n with
  | zero => rfl
  | succ n ih =>
    simp only [bump, h n (Nat.lt_succ_self n), ih fun i hi => h i (Nat.lt_succ_of_lt hi)]

/-- Entry `(r, n)` of a 4x4096 block (coordinates past the block wrap; none is used). -/
def at4 (r n : ℕ) : S4x4096.Idx :=
  fun a => ⟨(![r % 4, n % 4096] : Fin 2 → ℕ) a, by
    have h0 := Nat.mod_lt r (show 4 > 0 by omega)
    have h1 := Nat.mod_lt n (show 4096 > 0 by omega)
    fin_cases a
    · exact h0
    · exact h1⟩

theorem at4_eq (j : S4x4096.Idx) : at4 (j 0).val (j 1).val = j := by
  funext a
  have h0 : (j 0).val < 4 := (j 0).isLt
  have h1 : (j 1).val < 4096 := (j 1).isLt
  apply Fin.ext
  fin_cases a
  · exact Nat.mod_eq_of_lt h0
  · exact Nat.mod_eq_of_lt h1

/-- Row `r` of a block of words, as a sequence of naturals. -/
def rowOf (KB : S4x4096.Idx → BitVec 32) (r : ℕ) : ℕ → ℕ := fun n => (KB (at4 r n)).toNat

/-- A fold over sixteen lanes that adds one for each lane below `lim` whose entry is `j`. -/
theorem fold_bump (km : ℕ → ℕ) (j base : ℕ) (n lim : ℕ) (hit : Fin n → Prop) [DecidablePred hit]
    (hhit : ∀ k : Fin n, hit k ↔ (k.val < lim ∧ km (base + k.val) = j)) :
    (List.finRange n).foldl (fun (a : F .f32) k => if hit k then FloatOps.idxAddf a oneF else a) (bump km j base)
      = bump km j (base + min n lim) := by
  induction n with
  | zero => simp
  | succ n ih =>
    rw [List.finRange_succ_last, List.foldl_append, List.foldl_map]
    have h := ih (fun k => hit k.castSucc) (fun k => by rw [hhit]; rfl)
    rw [h]
    simp only [List.foldl_cons, List.foldl_nil]
    by_cases hl : n < lim
    · rw [min_eq_left (by omega : n ≤ lim), min_eq_left (by omega : n + 1 ≤ lim)]
      have e : base + (n + 1) = (base + n) + 1 := by omega
      rw [e]
      simp only [bump]
      refine if_congr ?_ rfl rfl
      rw [hhit]
      simp [hl]
    · rw [min_eq_right (by omega : lim ≤ n), min_eq_right (by omega : lim ≤ n + 1), if_neg]
      rw [hhit]
      simp [hl]

/-- The indexed store with addition, at one element of the block: a fold over the lanes of the additions that hit it. -/
theorem storeIdx_at (f : Vec F S4x4096 .f32) (idxs : Fin 2 → IVec S16 32) (v : Vec F S16 .f32) (mask : IVec S16 1)
    (h : ∀ a x, (idxs a x).toNat < S4x4096.size a) (j : S4x4096.Idx) :
    storeIdx f idxs v mask true h j
      = (List.finRange 16).foldl (fun (a : F .f32) (k : Fin 16) =>
          if mask (Shape.ofLane (d := ![16]) k) = 1
              ∧ ∀ ax, (j ax).val = (idxs ax (Shape.ofLane (d := ![16]) k)).toNat then
            FloatOps.idxAddf a (v (Shape.ofLane (d := ![16]) k)) else a) (f j) := by
  unfold storeIdx
  show (List.foldl _ f (List.finRange 16)) j = _
  generalize List.finRange 16 = l
  induction l generalizing f with
  | nil => rfl
  | cons k l ih =>
    refine (ih _).trans ?_
    rw [List.foldl_cons]
    congr 1
    dsimp only
    by_cases hm : mask (Shape.ofLane (d := ![16]) k) = 1
    · by_cases hj : ∀ ax, (j ax).val = (idxs ax (Shape.ofLane (d := ![16]) k)).toNat
      · have hi : idxAt idxs h (Shape.ofLane (d := ![16]) k) = j := by
          funext ax; exact Fin.ext (hj ax).symm
        rw [if_pos hm, if_pos (And.intro hm hj)]
        refine (if_pos (fun a => ?_)).trans ?_
        · exact hj a
        · rw [hi]; rfl
      · rw [if_pos hm]
        exact (if_neg hj).trans (if_neg (fun hh : _ ∧ _ => hj hh.2)).symm
    · rw [if_neg hm, if_neg (fun hh => hm hh.1)]

/-- Row `r` scattered with the entries `16` at a time: element `j` of the block after the store. -/
theorem storeIdx_row (f : Vec F S4x4096 .f32) (rs idx : IVec S16 32) (v : Vec F S16 .f32) (mask : IVec S16 1)
    (h : ∀ a x, ((![rs, idx] : Fin 2 → IVec S16 32) a x).toNat < S4x4096.size a) (j : S4x4096.Idx)
    (r lim base : ℕ) (km : ℕ → ℕ)
    (hr : ∀ k : Fin 16, (rs (Shape.ofLane (d := ![16]) k)).toNat = r)
    (hk : ∀ k : Fin 16, (idx (Shape.ofLane (d := ![16]) k)).toNat = km (base + k.val))
    (hv : ∀ k : Fin 16, v (Shape.ofLane (d := ![16]) k) = oneF)
    (hmask : ∀ k : Fin 16, mask (Shape.ofLane (d := ![16]) k) = 1 ↔ k.val < lim)
    (hf : (j 0).val = r → f j = bump km (j 1).val base) :
    storeIdx f ![rs, idx] v mask true h j
      = if (j 0).val = r then bump km (j 1).val (base + min 16 lim) else f j := by
  rw [storeIdx_at]
  by_cases hj : (j 0).val = r
  · rw [if_pos hj, hf hj]
    simp only [hv]
    refine fold_bump km (j 1).val base 16 lim _ fun k => ?_
    rw [hmask k]
    refine and_congr_right fun _ => ?_
    constructor
    · intro hh
      have := hh 1
      rw [← hk k]; exact this.symm
    · intro hh ax
      fin_cases ax
      · show (j 0).val = (rs _).toNat
        rw [hr k]; exact hj
      · show (j 1).val = (idx _).toNat
        rw [hk k]; exact hh.symm
  · rw [if_neg hj]
    have hno : ∀ k : Fin 16, ¬ (mask (Shape.ofLane (d := ![16]) k) = 1
        ∧ ∀ ax, (j ax).val = ((![rs, idx] : Fin 2 → IVec S16 32) ax (Shape.ofLane (d := ![16]) k)).toNat) := by
      rintro k ⟨-, hh⟩
      have := hh 0
      apply hj
      rw [← hr k]; exact this
    simp only [hno, if_false]
    generalize List.finRange 16 = l
    induction l with
    | nil => rfl
    | cons k l ih => rw [List.foldl_cons]; exact ih

/-! ## The states of a row -/

/-- The number of 6-mers in a row. -/
abbrev NK : ℕ := 4091

/-- The rows below `r` hold their histograms. -/
def Done (KB : S4x4096.Idx → BitVec 32) (r : ℕ) (G : S4x4096.Idx → F .f32) : Prop :=
  ∀ j : S4x4096.Idx, (j 0).val < r → G j = bump (rowOf KB (j 0).val) (j 1).val NK

/-- Row `r` holds zero in its first `n` bins. -/
def Zeroed (r n : ℕ) (G : S4x4096.Idx → F .f32) : Prop :=
  ∀ j : S4x4096.Idx, (j 0).val = r → (j 1).val < n → G j = zeroF

/-- Row `r` holds the counts of its first `n` entries. -/
def Part (KB : S4x4096.Idx → BitVec 32) (r n : ℕ) (G : S4x4096.Idx → F .f32) : Prop :=
  ∀ j : S4x4096.Idx, (j 0).val = r → G j = bump (rowOf KB r) (j 1).val n

theorem done_zero (KB : S4x4096.Idx → BitVec 32) (G : S4x4096.Idx → F .f32) : Done KB 0 G :=
  fun _ h => absurd h (Nat.not_lt_zero _)

theorem zeroed_zero (r : ℕ) (G : S4x4096.Idx → F .f32) : Zeroed r 0 G :=
  fun _ _ h => absurd h (Nat.not_lt_zero _)

theorem part_of_zeroed (KB : S4x4096.Idx → BitVec 32) (r : ℕ) (G : S4x4096.Idx → F .f32) (h : Zeroed r 4096 G) :
    Part KB r 0 G := fun j hj => h j hj (j 1).isLt

theorem done_succ (KB : S4x4096.Idx → BitVec 32) (r : ℕ) (G : S4x4096.Idx → F .f32) (hd : Done KB r G)
    (hp : Part KB r NK G) : Done KB (r + 1) G := fun j hj => by
  rcases Nat.lt_succ_iff_lt_or_eq.mp hj with h | h
  · exact hd j h
  · rw [h]; exact hp j h

/-- A block all four of whose rows are done holds every row's histogram. -/
theorem done_four (KB : S4x4096.Idx → BitVec 32) (G : S4x4096.Idx → F .f32) (hd : Done KB 4 G) (j : S4x4096.Idx) :
    G j = bump (rowOf KB (j 0).val) (j 1).val NK := hd j (j 0).isLt

/-- Scattering sixteen entries (the first `lim` of them) of row `r` from entry `base` on. -/
theorem step_store (KB : S4x4096.Idx → BitVec 32) (r base lim : ℕ) (f : Vec F S4x4096 .f32)
    (hd : Done KB r f) (hp : Part KB r base f)
    (rs idx : IVec S16 32) (v : Vec F S16 .f32) (mask : IVec S16 1)
    (h : ∀ a x, ((![rs, idx] : Fin 2 → IVec S16 32) a x).toNat < S4x4096.size a)
    (hr : ∀ k : Fin 16, (rs (Shape.ofLane (d := ![16]) k)).toNat = r)
    (hk : ∀ k : Fin 16, (idx (Shape.ofLane (d := ![16]) k)).toNat = rowOf KB r (base + k.val))
    (hv : ∀ k : Fin 16, v (Shape.ofLane (d := ![16]) k) = oneF)
    (hmask : ∀ k : Fin 16, mask (Shape.ofLane (d := ![16]) k) = 1 ↔ k.val < lim) :
    Done KB r (storeIdx f ![rs, idx] v mask true h)
      ∧ Part KB r (base + min 16 lim) (storeIdx f ![rs, idx] v mask true h) := by
  have e := fun j => storeIdx_row f rs idx v mask h j r lim base (rowOf KB r) hr hk hv hmask (hp j)
  refine ⟨fun j hj => ?_, fun j hj => ?_⟩
  · rw [e, if_neg (by omega)]; exact hd j hj
  · rw [e, if_pos hj]

end Cert.Proof.Hist
-- ==== Proof.Base.lean ====
/-
  The program as the launch theorem sees it: the certificate's names for the SparseCore configuration, the label tables
  and variants, and the resource algebra. Three protocols live side by side in it: the handshakes between @main and the
  SparseCores, the double-buffered pipeline of the TensorCore kernel, and the counters of the tiles' local copies.
-/
module

public import proofs.«01_k».proof.Defs
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Transfers
public import Idealize.ShloMosaic.Lib.Tactic
public import proofs.«01_k».proof.Proof.Hist

@[expose] public section

noncomputable section

namespace Cert.Proof.Main

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's decided facts: the handshake cells are distinct and no kernel's scoped cells, and no buffer of a
    SparseCore is shared between its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the copies' counters. -/
abbrev UH : Type := URounds (GSem nD τ sig) ℕ
abbrev UP : Type := URounds (GSem nD τ sig) Unit
abbrev UU : Type := UH × (UP × Counters)

/-- The resources every assertion of this certificate speaks about. -/
abbrev MM (F : FTy → Type) : Type := MT nD τ sig (HIx 1) (Elt F) ℕ UU ℕ

/-- Where the handshakes' rounds and the pipeline's rounds sit in them. -/
abbrev EH : Emb UH (MM F) := embL
abbrev EP : Emb UP (MM F) := (Emb.inl : Emb UP (UP × Counters)).trans embR

end Cert.Proof.Main
-- ==== Proof.RowRun.lean ====
/-
  The pieces of a tile's work on one row of a 4x4096 block held in tile memory, each as a rule for the program at its
  head: the indexed store that adds sixteen entries to the row, the loop that zeroes the row, and the loop that scatters
  the row's first 4080 entries. They speak of any two memrefs holding a whole block (the counts `M`, the entries `N`),
  any row and any loop of the right trip count and offsets, so the eight rows of a pass use the same two rules.
-/
module

public import proofs.«01_k».proof.Proof.Base
public import Idealize.ShloMosaic.Lib.ValueLayout
public import Idealize.ShloMosaic.Lib.Pipeline.ValueKit

@[expose] public section

noncomputable section

namespace Cert.Proof.Main

open Cert.KernelIdeal Cert.KernelIdeal.Gen Cert.Proof.Hist
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## Reading a vector of entries -/

/-- Sixteen consecutive entries of row `r` read as a vector: lane `k` is entry `base + k`. -/
theorem lane_eq {κ : Kind} (N : Memref sig κ .vmem S4x4096 .i32) (g : N.view.ty.Contents (Elt F))
    (r base : ℕ) (hr : r < 4) (hb : base + 16 ≤ 4096) (off : Fin 2 → ℕ) (hoff : off = ![r, base])
    (inb : ∀ a, off a + S1x16.size a ≤ S4x4096.size a) (k : Fin 16) :
    (shapeCast S16 (N.view.readAt (Elt F) (Rect.unit (s := S4x4096) off S1x16.size inb).toLoadRect g) shapeCasts_S1x16_S16
      (Shape.ofLane (d := ![16]) k) : BitVec 32).toNat = rowOf (N.view.read (Elt F) g) r (base + k.val) := by
  refine (congrArg BitVec.toNat (shapeCast_dropUnit_apply (n := 1) ![16] _ _ _)).trans ?_
  rw [View.readAt_apply]
  unfold rowOf
  congr 2
  funext a
  apply Fin.ext
  have hk := k.isLt
  subst hoff
  fin_cases a
  · show r + 1 * 0 = r % 4
    rw [Nat.mod_eq_of_lt hr]; omega
  · show base + 1 * k.val = (base + k.val) % 4096
    rw [Nat.mod_eq_of_lt (by omega)]; omega

/-- The entries of a block stay below 4096. -/
def Small (KB : S4x4096.Idx → BitVec 32) : Prop := ∀ j, (KB j).toNat < 4096

/-- The side condition of a scatter: the row number is below 4 and every entry below 4096. -/
theorem chk_of_small {κ : Kind} (N : Memref sig κ .vmem S4x4096 .i32) (g : N.view.ty.Contents (Elt F))
    (hs : Small (N.view.read (Elt F) g)) (rs : IVec S16 32) (r : ℕ) (hr : r < 4) (hrs : ∀ x, (rs x).toNat = r)
    (lr : LoadRect S4x4096) (h : lr.shape.ShapeCasts S16) :
    ∀ a x, ((![rs, shapeCast S16 (N.view.readAt (Elt F) lr g : lr.shape.Idx → BitVec 32) h] : Fin 2 → IVec S16 32) a x).toNat
      < S4x4096.size a := by
  intro a x
  fin_cases a
  · show (rs x).toNat < 4
    rw [hrs]; exact hr
  · exact hs _

/-! ## The indexed store -/

section Run

variable (d : Dev nD) (cc : Fin τ.nSC) (ss : Fin τ.nSub)

/-- The indexed store with addition onto row `r`: from a row counted up to entry `base`, to one counted sixteen entries
    (or the first `lim` of them) further. -/
theorem wp_store_row (M : Memref sig .scVector .vmem S4x4096 .f32) (hM : M.IsWhole)
    (KB : S4x4096.Idx → BitVec 32) (r base lim : ℕ)
    (rs idx : IVec S16 32) (v : Vec F S16 .f32) (mask : IVec S16 1)
    (h : ∀ a x, ((![rs, idx] : Fin 2 → IVec S16 32) a x).toNat < S4x4096.size a)
    (hs : (M.access (.whole S4x4096)).Stores Finset.univ)
    (hr : ∀ x, (rs x).toNat = r)
    (hk : ∀ k : Fin 16, (idx (Shape.ofLane (d := ![16]) k)).toNat = rowOf KB r (base + k.val))
    (hv : ∀ k : Fin 16, v (Shape.ofLane (d := ![16]) k) = oneF)
    (hmask : ∀ k : Fin 16, mask (Shape.ofLane (d := ![16]) k) = 1 ↔ k.val < lim)
    {α : Type} {kk : PUnit → Prog (TpuEff nD τ sig (Elt F) Λ₀ (.scVector cc ss)) α} {Q : α → sProp 𝕄}
    {f : Buf (Elt F) (M.view.loc (V d cc ss))}
    (hd : Done KB r (M.view.read (Elt F) f)) (hp : Part KB r base (M.view.read (Elt F) f)) :
    (M.view.loc (V d cc ss) ↦{fullShare} f : sProp 𝕄)
      ⊢ iprop((∀ f', ⌜Done KB r (M.view.read (Elt F) f') ∧ Part KB r (base + min 16 lim) (M.view.read (Elt F) f')⌝
            -∗ (M.view.loc (V d cc ss) ↦{fullShare} f')
            -∗ wp frame (wpE (defs₀ (F := F)) 𝒱₀ (V d cc ss) none) Set.univ (kk ⟨⟩) Q)
          -∗ wp frame (wpE (defs₀ (F := F)) 𝒱₀ (V d cc ss) none) Set.univ
              (SparseCore.vectorStoreIdx M ![rs, idx] v mask true h hs >>= kk) Q) := by
  have hset : (M.access (.whole S4x4096)).set = Finset.univ := by
    rw [View.set_slice, Rect.set_whole]; exact hM.set_eq_univ
  have hread : ∀ g, (M.access (.whole S4x4096)).read (Elt F) g = M.view.read (Elt F) g := fun g => by
    funext x
    show M.view.read (Elt F) g ((Rect.whole S4x4096).emb x) = _
    rw [Rect.emb_whole_apply]
  have key := SparseCore.wp_vectorStoreIdx (defs := defs₀ (F := F)) (U := UU) (Name := ℕ) (Ix := HIx 1) (Lvl := ℕ) 𝒱₀ (V d cc ss) none Set.univ
    (base := M) (idxs := ![rs, idx]) (v := v) (mask := mask) (add := true) (h := h) (hs := hs) (k := kk) (Q := Q) (f := f)
  rw [hset] at key
  iintro H Hk
  iapply key $$ H
  iintro H
  iapply Hk $$ [] H
  ipureintro
  have e : M.view.read (Elt F) ((M.access (.whole S4x4096)).write (Elt F) f
      (storeIdx ((M.access (.whole S4x4096)).read (Elt F) f) ![rs, idx] v mask true h) Finset.univ)
      = storeIdx (M.view.read (Elt F) f) ![rs, idx] v mask true h := by
    rw [← hread, View.read_write_univ, hread]
  rw [e]
  exact step_store KB r base lim _ hd hp rs idx v mask h (fun k => hr _) hk hv hmask

/-! ## The two loops of a row -/

/-- The loop that zeroes row `r`: 256 stores of sixteen zeros. The rows below it keep their histograms. -/
theorem wp_zero_loop (M : Memref sig .scVector .vmem S4x4096 .f32)
    (KB : S4x4096.Idx → BitVec 32) (r : ℕ) (hr : r < 4)
    (L : Scf.Loop 32) (hok : L.OK) (hN : L.trips = 256)
    (off : Fin L.trips → Fin 2 → ℕ) (hoff : ∀ k, off k = ![r, 16 * k.val])
    (inb : ∀ k a, off k a + S1x16.size a ≤ S4x4096.size a)
    (z : Vec F S1x16 .f32) (hz : ∀ x, z x = zeroF)
    (body : Fin L.trips → Unit → Prog (TpuEff nD τ sig (Elt F) Λ₀ (.scVector cc ss)) Unit)
    (hl : ∀ k, M.view.LoadsAt (Rect.unit (s := S4x4096) (off k) S1x16.size (inb k)).toLoadRect)
    (hst : ∀ k, (M.access (Rect.unit (s := S4x4096) (off k) S1x16.size (inb k))).Stores Finset.univ)
    (hbody : ∀ k u, body k u = .op (.load M (Rect.unit (s := S4x4096) (off k) S1x16.size (inb k)).toLoadRect (hl k)) fun _ =>
      .op (.store M (Rect.unit (s := S4x4096) (off k) S1x16.size (inb k)) z Finset.univ (hst k) (.inl rfl)) fun _ => .ret ⟨⟩)
    {α : Type} {kk : Unit → Prog (TpuEff nD τ sig (Elt F) Λ₀ (.scVector cc ss)) α} {Q : α → sProp 𝕄}
    {f : Buf (Elt F) (M.view.loc (V d cc ss))} (hd : Done KB r (M.view.read (Elt F) f)) :
    (M.view.loc (V d cc ss) ↦{fullShare} f : sProp 𝕄)
      ⊢ iprop((∀ f', ⌜Done KB r (M.view.read (Elt F) f') ∧ Part KB r 0 (M.view.read (Elt F) f')⌝
            -∗ (M.view.loc (V d cc ss) ↦{fullShare} f')
            -∗ wp frame (wpE (defs₀ (F := F)) 𝒱₀ (V d cc ss) none) Set.univ (kk ⟨⟩) Q)
          -∗ wp frame (wpE (defs₀ (F := F)) 𝒱₀ (V d cc ss) none) Set.univ
              (Scf.Loop.for L hok ⟨⟩ body >>= kk) Q) := by
  iintro H Hk
  iapply (Scf.wp_for_bind frame (wpE (defs₀ (F := F)) 𝒱₀ (V d cc ss) none) Set.univ L.lb L.ub L.st hok ⟨⟩ body
    (fun n (_ : Unit) => iprop(∃ f', ⌜Done KB r (M.view.read (Elt F) f') ∧ Zeroed r (16 * n) (M.view.read (Elt F) f')⌝
      ∗ (M.view.loc (V d cc ss) ↦{fullShare} f' : sProp 𝕄))) ?step) $$ [H]
  case step =>
    intro k u
    rw [hbody]
    iintro ⟨%g, %hg, H⟩
    iapply (wp_load (defs := defs₀ (F := F)) 𝒱₀ (V d cc ss) none Set.univ (m := M) (S := Finset.univ) (Finset.subset_univ _)) $$ H
    iintro H
    iapply (wp_store (defs := defs₀ (F := F)) 𝒱₀ (V d cc ss) none Set.univ (m := M)
      (r := Rect.unit (s := S4x4096) (off k) S1x16.size (inb k)) (w := z) (Mk := Finset.univ) (hx := hst k) (S := Finset.univ)
      (Finset.subset_univ _)) $$ H
    iintro H
    rw [wp_ret]
    imodintro
    iexists _
    isplitr
    rotate_left
    · iexact H
    ipureintro
    have e0 : off k 0 = r := by rw [hoff k]; rfl
    have e1 : off k 1 = 16 * k.val := by rw [hoff k]; rfl
    have hit : ∀ j : S4x4096.Idx, (j 0).val = r → 16 * k.val ≤ (j 1).val → (j 1).val < 16 * k.val + 16 →
        M.view.read (Elt F) ((M.access (Rect.unit (s := S4x4096) (off k) S1x16.size (inb k))).write (Elt F) g z Finset.univ) j = zeroF := by
      intro j h0 h1 h2
      have hj : j = (Rect.unit (s := S4x4096) (off k) S1x16.size (inb k)).emb (ix2 (0 : Fin 1) (⟨(j 1).val - 16 * k.val, by omega⟩ : Fin 16)) := by
        funext a; apply Fin.ext
        rw [Rect.emb_apply]
        fin_cases a
        · show (j 0).val = off k 0 + 1 * 0
          omega
        · show (j 1).val = off k 1 + 1 * ((j 1).val - 16 * k.val)
          omega
      rw [hj]
      exact (View.read_slice_write_emb _ _ _ (Finset.mem_univ _)).trans (hz _)
    have miss : ∀ j : S4x4096.Idx, ((j 0).val ≠ r ∨ (j 1).val < 16 * k.val) →
        M.view.read (Elt F) ((M.access (Rect.unit (s := S4x4096) (off k) S1x16.size (inb k))).write (Elt F) g z Finset.univ) j
          = M.view.read (Elt F) g j := by
      intro j hj
      refine View.read_slice_write_of_not_mem _ _ _ _ fun hm => ?_
      obtain ⟨x, -, rfl⟩ := Finset.mem_map.mp hm
      rcases hj with hj | hj
      · apply hj
        rw [Rect.emb_apply]
        show off k 0 + 1 * (x 0).val = r
        have hx : (x 0).val < 1 := (x 0).isLt
        omega
      · rw [Rect.emb_apply] at hj
        have : off k 1 + 1 * (x 1).val < 16 * k.val := hj
        omega
    refine ⟨fun j hj => ?_, fun j h0 h1 => ?_⟩
    · rw [miss j (.inl (by omega))]; exact hg.1 j hj
    · by_cases h2 : (j 1).val < 16 * k.val
      · rw [miss j (.inr h2)]; exact hg.2 j h0 h2
      · exact hit j h0 (by omega) (by omega)
  · iexists f; isplitr
    · ipureintro; exact ⟨hd, zeroed_zero r _⟩
    · iexact H
  iintro %u ⟨%g, %hg, H⟩
  have hN' : Scf.trips L.lb L.ub L.st = 256 := hN
  rw [hN'] at hg
  iapply Hk $$ [] H
  ipureintro
  exact ⟨hg.1, part_of_zeroed KB r _ hg.2⟩

/-- The loop that scatters the first 4080 entries of row `r`, sixteen a trip. The entries stay in place. -/
theorem wp_chunk_loop (M : Memref sig .scVector .vmem S4x4096 .f32) (hM : M.IsWhole)
    (N : Memref sig .scVector .vmem S4x4096 .i32)
    (g4 : Buf (Elt F) (N.view.loc (V d cc ss))) (hsm : Small (N.view.read (Elt F) g4))
    (r : ℕ) (hr : r < 4)
    (L : Scf.Loop 32) (hok : L.OK) (hN : L.trips = 255)
    (off : Fin L.trips → Fin 2 → ℕ) (hoff : ∀ k, off k = ![r, 16 * k.val])
    (inb : ∀ k a, off k a + S1x16.size a ≤ S4x4096.size a)
    (rs : IVec S16 32) (hrs : ∀ x, (rs x).toNat = r)
    (v : Vec F S16 .f32) (hv : ∀ x, v x = oneF)
    (body : Fin L.trips → Unit → Prog (TpuEff nD τ sig (Elt F) Λ₀ (.scVector cc ss)) Unit)
    (hl : ∀ k, N.view.LoadsAt (Rect.unit (s := S4x4096) (off k) S1x16.size (inb k)).toLoadRect)
    (hst : (M.access (.whole S4x4096)).Stores Finset.univ)
    (dec : ∀ x : IVec S16 32, Decidable (∀ a y, ((![rs, x] : Fin 2 → IVec S16 32) a y).toNat < S4x4096.size a))
    (hbody : ∀ k u, body k u = .op (.load N (Rect.unit (s := S4x4096) (off k) S1x16.size (inb k)).toLoadRect (hl k)) fun (ld : Vec F S1x16 .i32) =>
      .op (.assume _ (dec (shapeCast S16 ld shapeCasts_S1x16_S16))) fun hw =>
        SparseCore.vectorStoreIdx M ![rs, shapeCast S16 ld shapeCasts_S1x16_S16] v (fun _ => 1#1) true hw.down hst
          >>= fun _ => .ret ⟨⟩)
    {α : Type} {kk : Unit → Prog (TpuEff nD τ sig (Elt F) Λ₀ (.scVector cc ss)) α} {Q : α → sProp 𝕄}
    {f : Buf (Elt F) (M.view.loc (V d cc ss))}
    (hd : Done (N.view.read (Elt F) g4) r (M.view.read (Elt F) f)) (hp : Part (N.view.read (Elt F) g4) r 0 (M.view.read (Elt F) f)) :
    iprop((M.view.loc (V d cc ss) ↦{fullShare} f) ∗ (N.view.loc (V d cc ss) ↦{fullShare} g4) : sProp 𝕄)
      ⊢ iprop((∀ f', ⌜Done (N.view.read (Elt F) g4) r (M.view.read (Elt F) f') ∧ Part (N.view.read (Elt F) g4) r 4080 (M.view.read (Elt F) f')⌝
            -∗ (M.view.loc (V d cc ss) ↦{fullShare} f') -∗ (N.view.loc (V d cc ss) ↦{fullShare} g4)
            -∗ wp frame (wpE (defs₀ (F := F)) 𝒱₀ (V d cc ss) none) Set.univ (kk ⟨⟩) Q)
          -∗ wp frame (wpE (defs₀ (F := F)) 𝒱₀ (V d cc ss) none) Set.univ
              (Scf.Loop.for L hok ⟨⟩ body >>= kk) Q) := by
  iintro ⟨H, HN⟩ Hk
  iapply (Scf.wp_for_bind frame (wpE (defs₀ (F := F)) 𝒱₀ (V d cc ss) none) Set.univ L.lb L.ub L.st hok ⟨⟩ body
    (fun n (_ : Unit) => iprop((∃ f', ⌜Done (N.view.read (Elt F) g4) r (M.view.read (Elt F) f')
        ∧ Part (N.view.read (Elt F) g4) r (16 * n) (M.view.read (Elt F) f')⌝
      ∗ (M.view.loc (V d cc ss) ↦{fullShare} f')) ∗ (N.view.loc (V d cc ss) ↦{fullShare} g4) : sProp 𝕄)) ?step) $$ [H HN]
  case step =>
    intro k u
    have hk : k.val < 255 := lt_of_lt_of_eq k.isLt hN
    rw [hbody]
    iintro ⟨⟨%g, %hg, H⟩, HN⟩
    iapply (wp_load (defs := defs₀ (F := F)) 𝒱₀ (V d cc ss) none Set.univ (m := N) (S := Finset.univ) (Finset.subset_univ _)) $$ HN
    iintro HN
    rw [wp_assume_of _ _ _ _ (chk_of_small N g4 hsm rs r hr hrs _ _)]
    iapply (wp_store_row (F := F) d cc ss M hM (N.view.read (Elt F) g4) r (16 * k.val) 16 rs _ v _ _ hst hrs
      (fun l => lane_eq N g4 r (16 * k.val) hr (by omega) (off k) (hoff k) (inb k) l) (fun l => hv _)
      (fun l => ⟨fun _ => l.isLt, fun _ => rfl⟩) hg.1 hg.2) $$ H
    iintro %f' %hf' H
    rw [wp_ret]
    imodintro
    isplitl [H]
    · iexists f'
      isplitr
      · ipureintro; exact hf'
      · iexact H
    · iexact HN
  · isplitl [H]
    · iexists f; isplitr
      · ipureintro; exact ⟨hd, hp⟩
      · iexact H
    · iexact HN
  iintro %u ⟨⟨%g, %hg, H⟩, HN⟩
  have hN' : Scf.trips L.lb L.ub L.st = 255 := hN
  rw [hN'] at hg
  iapply Hk $$ [] H HN
  ipureintro
  exact hg

end Run

end Cert.Proof.Main
-- ==== Proof.Copies.lean ====
/-
  A tile's copies. Tile `(c, s)` works on the 32 rows from `32·(2s + c)` on, in eight batches of four rows; batches of
  even and odd number go through two pairs of buffers. For either parity `p` the tile holds the rows of that parity's
  batches (`tset w p`) of the k-mer array and of the output array. The four rules below start and await a copy of one
  batch: of entries into a buffer (the rest of the parity's rows stay with the tile) and of counts out to the output
  (all of the parity's output rows travel with the copy, so that what they hold after `t` batches, `OutOK`, is one
  statement).
-/
module

public import proofs.«01_k».proof.Proof.RowRun

@[expose] public section

noncomputable section

namespace Cert.Proof.Main

open Cert.KernelIdeal Cert.KernelIdeal.Gen Cert.Proof.Hist
open Idealize.ShloMosaic
open Idealize.ShloMosaic.SparseCore (S V T)
open Idealize.ShloMosaic.SparseCore.Cfg (HIx Pay)
open Idealize.ShloMosaic.Transfers (Flight)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F
local notation "kW" => (Memref.whole Cert.KernelIdeal.main_v1_scv : Memref Cert.KernelIdeal.sig Kind.scVector Space.hbm Cert.KernelIdeal.S1024x4096 EltTy.i32)
local notation "oW" => (Memref.whole Cert.KernelIdeal.main_v2_scv : Memref Cert.KernelIdeal.sig Kind.scVector Space.hbm Cert.KernelIdeal.S1024x4096 EltTy.f32)

/-! ## Rows of the two arrays -/

/-- Entry `(r, n)` of a 1024x4096 array (coordinates past the array wrap; none is used). -/
def atB (r n : ℕ) : S1024x4096.Idx :=
  fun a => ⟨(![r % 1024, n % 4096] : Fin 2 → ℕ) a, by
    have h0 := Nat.mod_lt r (show 1024 > 0 by omega)
    have h1 := Nat.mod_lt n (show 4096 > 0 by omega)
    fin_cases a
    · exact h0
    · exact h1⟩

theorem atB_eq (x : S1024x4096.Idx) : atB (x 0).val (x 1).val = x := by
  funext a
  have h0 : (x 0).val < 1024 := (x 0).isLt
  have h1 : (x 1).val < 4096 := (x 1).isLt
  apply Fin.ext
  fin_cases a
  · exact Nat.mod_eq_of_lt h0
  · exact Nat.mod_eq_of_lt h1

/-- The rows of tile number `w`'s batches of parity `p`. -/
def tset (w p : ℕ) : Finset S1024x4096.Idx :=
  Finset.univ.filter fun x => (x 0).val / 32 = w ∧ (x 0).val / 4 % 2 = p

/-- The four rows from `row` on. -/
def bset (row : ℕ) : Finset S1024x4096.Idx :=
  Finset.univ.filter fun x => row ≤ (x 0).val ∧ (x 0).val < row + 4

theorem mem_tset {w p : ℕ} {x : S1024x4096.Idx} : x ∈ tset w p ↔ (x 0).val / 32 = w ∧ (x 0).val / 4 % 2 = p := by
  simp [tset]

theorem mem_bset {row : ℕ} {x : S1024x4096.Idx} : x ∈ bset row ↔ row ≤ (x 0).val ∧ (x 0).val < row + 4 := by
  simp [bset]

/-- The first row of batch `2t + p` of tile number `w`. -/
abbrev rowAt (w p t : ℕ) : ℕ := 32 * w + 8 * t + 4 * p

theorem bset_subset {w p t : ℕ} (hp : p < 2) (ht : t < 4) : bset (rowAt w p t) ⊆ tset w p := by
  intro x hx
  rw [mem_bset] at hx
  rw [mem_tset]
  unfold rowAt at hx
  omega

/-- A block of four rows, as a rectangle, places `(a, b)` at `(row + a, b)`. -/
theorem rect_emb (row : ℕ) (hrow : row + 4 ≤ 1024) (off : Fin 2 → ℕ) (hoff : off = ![row, 0])
    (inb : ∀ a, off a + S4x4096.size a ≤ S1024x4096.size a) (j : S4x4096.Idx) :
    (Rect.unit (s := S1024x4096) off S4x4096.size inb).emb j = atB (row + (j 0).val) (j 1).val := by
  subst hoff
  have h0 : (j 0).val < 4 := (j 0).isLt
  have h1 : (j 1).val < 4096 := (j 1).isLt
  funext a
  apply Fin.ext
  rw [Rect.emb_apply]
  fin_cases a
  · show row + 1 * (j 0).val = (row + (j 0).val) % 1024
    rw [Nat.mod_eq_of_lt (by omega)]; omega
  · show 0 + 1 * (j 1).val = (j 1).val % 4096
    rw [Nat.mod_eq_of_lt h1]; omega

/-- The elements a block of four rows names. -/
theorem rect_set (row : ℕ) (hrow : row + 4 ≤ 1024) (off : Fin 2 → ℕ) (hoff : off = ![row, 0])
    (inb : ∀ a, off a + S4x4096.size a ≤ S1024x4096.size a) :
    (Rect.unit (s := S1024x4096) off S4x4096.size inb).set = bset row := by
  rw [← Rect.map_emb_univ]
  ext x
  rw [mem_bset]
  constructor
  · intro hx
    obtain ⟨j, -, rfl⟩ := Finset.mem_map.mp hx
    rw [rect_emb row hrow off hoff inb j]
    have h0 : (j 0).val < 4 := (j 0).isLt
    show row ≤ (row + (j 0).val) % 1024 ∧ (row + (j 0).val) % 1024 < row + 4
    rw [Nat.mod_eq_of_lt (by omega)]; omega
  · rintro ⟨h, h'⟩
    refine Finset.mem_map.mpr ⟨at4 ((x 0).val - row) (x 1).val, Finset.mem_univ _, ?_⟩
    rw [rect_emb row hrow off hoff inb]
    have e0 : ((at4 ((x 0).val - row) (x 1).val) 0).val = (x 0).val - row := Nat.mod_eq_of_lt (by omega)
    have e1 : ((at4 ((x 0).val - row) (x 1).val) 1).val = (x 1).val := Nat.mod_eq_of_lt (x 1).isLt
    rw [e0, e1, Nat.add_sub_cancel' h]
    exact atB_eq x

/-! ## What the arrays hold -/

/-- The histogram array of a k-mer array: element `(r, j)` is bin `j` after all 4091 entries of row `r`. -/
def histOf (KM : S1024x4096.Idx → BitVec 32) : S1024x4096.Idx → F .f32 :=
  fun x => bump (fun n => (KM (atB (x 0).val n)).toNat) (x 1).val NK

section Copies

variable (d : Dev nD) (i : grid1.Coords)

/-- The tile's thread and its number. -/
abbrev thr : Thread nD τ := V d ((i 0).castLE hcore1) ((i 1).castLE hsub1)
abbrev wOf : ℕ := (i 1).val * 2 + (i 0).val

theorem wOf_lt : wOf i < 32 := by
  have h0 : (i 0).val < 2 := (i 0).isLt
  have h1 : (i 1).val < 16 := (i 1).isLt
  unfold wOf; omega

variable (KM : Buf (Elt F) ((kW).view.loc (thr d i)))

/-- A buffer holds the four rows of the k-mer array from `row` on. -/
def KBis (N : Memref sig .scVector .vmem S4x4096 .i32) (g : Buf (Elt F) (N.view.loc (thr d i))) (row : ℕ) : Prop :=
  ∀ j : S4x4096.Idx, N.view.read (Elt F) g j = (KM : S1024x4096.Idx → BitVec 32) (atB (row + (j 0).val) (j 1).val)

/-- The output rows of parity `p` hold their histograms in the batches below number `2t`. -/
def OutOK (p t : ℕ) (f : Buf (Elt F) ((oW).view.loc (thr d i))) : Prop :=
  ∀ x ∈ tset (wOf i) p, (x 0).val / 4 % 8 < 2 * t → (f : S1024x4096.Idx → F .f32) x = histOf KM x

theorem outOK_zero (p : ℕ) (f : Buf (Elt F) ((oW).view.loc (thr d i))) : OutOK d i KM p 0 f :=
  fun _ _ h => absurd h (Nat.not_lt_zero _)

/-- A copy of four rows of entries in flight, and what the tile gets when it lands. -/
def InFl (N : Memref sig .scVector .vmem S4x4096 .i32) (sm : DmaSem sig) (row : ℕ) : sProp 𝕄 :=
  Flight countersEmb (thr d i) (.dma sm) none N.view.dmaCredit
    iprop((∃ g, ⌜KBis d i KM N g row⌝ ∗ (N.view.loc (thr d i) ↦{fullShare} g)) ∗ ((kW).view.loc (thr d i) ↦[bset row]{fullShare} KM))

/-- The number of units a copy out is waited for by. -/
abbrev outN : ℕ := sig.dmaCredit Kind.scVector (Kind.scVector.table Space.hbm) (oW).view.buf S4x4096 EltTy.f32

/-- A copy of four rows of counts in flight: all output rows of its parity and the buffer come back when it lands. -/
def OutFl (M : Memref sig .scVector .vmem S4x4096 .f32) (sm : DmaSem sig) (p t : ℕ) : sProp 𝕄 :=
  Flight countersEmb (thr d i) (.dma sm) none outN
    iprop((∃ f, ⌜OutOK d i KM p t f⌝ ∗ ((oW).view.loc (thr d i) ↦[tset (wOf i) p]{fullShare} f))
      ∗ ∃ g, (M.view.loc (thr d i) ↦{fullShare} g))

/-- What the thread owes, the waits it has made besides being of the plain kind. -/
def Owing (O : CellTallies nD τ sig (HIx 1)) (W : Waits sig (HIx 1)) : sProp 𝕄 :=
  iprop(∃ W', ⌜∀ p ∈ W', p ∈ W ∨ p.2 = none⌝ ∗ owes (thr d i) O W')

/-! ## The four rules -/

/-- Starting a copy of entries. -/
theorem wp_start_in (N : Memref sig .scVector .vmem S4x4096 .i32) (hN : N.IsWhole) (hN0 : 0 < N.view.dmaCredit) (sm : DmaSem sig) (p t : ℕ) (hp : p < 2) (ht : t < 4)
    (off : Fin 2 → ℕ) (hoff : off = ![rowAt (wOf i) p t, 0]) (inb : ∀ a, off a + S4x4096.size a ≤ S1024x4096.size a)
    {h4 : ∀ a, (Rect.unit (s := S1024x4096) off S4x4096.size inb).stride a = 1}
    {h1 : ((kW).slice (Rect.unit (s := S1024x4096) off S4x4096.size inb) h4).view.WordExact} {h2 : N.view.WordExact}
    {h3 : DmaTarget.Typed (nD := nD) (τ := τ) (p := .scVector ((i 0).castLE hcore1) ((i 1).castLE hsub1)) Space.hbm (.dma sm) (.here N)}
    {α : Type} {k : PUnit → Prog (TpuEff nD τ sig (Elt F) Λ₀ (.scVector ((i 0).castLE hcore1) ((i 1).castLE hsub1))) α} {Q : α → sProp 𝕄}
    {g : Buf (Elt F) (N.view.loc (thr d i))} :
    iprop((N.view.loc (thr d i) ↦{fullShare} g) ∗ semVal (thr d i, .dma sm) 0
        ∗ ((kW).view.loc (thr d i) ↦[tset (wOf i) p]{fullShare} KM) : sProp 𝕄)
      ⊢ iprop((InFl d i KM N sm (rowAt (wOf i) p t)
            -∗ ((kW).view.loc (thr d i) ↦[tset (wOf i) p \ bset (rowAt (wOf i) p t)]{fullShare} KM)
            -∗ wp frame (wpE (defs₀ (F := F)) 𝒱₀ (thr d i) none) Set.univ (k ⟨⟩) Q)
          -∗ wp frame (wpE (defs₀ (F := F)) 𝒱₀ (thr d i) none) Set.univ
              (.op (.enqueueDma ((kW).slice (Rect.unit (s := S1024x4096) off S4x4096.size inb) h4) (.here N) (.dma sm) h1 h2 h3) k) Q) := by
  have hw := wOf_lt i
  have hrow : rowAt (wOf i) p t + 4 ≤ 1024 := by unfold rowAt; omega
  have hset : ((kW).slice (Rect.unit (s := S1024x4096) off S4x4096.size inb) h4).view.set = bset (rowAt (wOf i) p t) := by
    exact (View.set_slice_whole _ _).trans (rect_set _ hrow off hoff inb)
  iintro ⟨HN, Hs, HK⟩ Hk
  ihave HK := (pointsTo_split_subset (ℓ := (kW).view.loc (thr d i)) (q := fullShare) (f := KM) (bset_subset (w := wOf i) hp ht)).1 $$ HK
  icases HK with ⟨HKb, HKr⟩
  ihave HKb := (Entails.of_eq (congrArg (fun S => ((kW).view.loc (thr d i) ↦[S]{fullShare} KM : sProp 𝕄)) hset.symm)) $$ HKb
  iapply (Transfers.wp_dmaLocal countersEmb 𝒱₀ (thr d i) none (Name := ℕ) (Sd := Finset.univ) none N.view.dmaCredit rfl hN0 (Finset.subset_univ _)) $$ [HN Hs HKb]
  · isplitl [HKb]; · iexact HKb
    isplitl [HN]; · iexact HN
    iexact Hs
  iintro Hfl
  iapply Hk $$ [Hfl] HKr
  unfold InFl
  iapply (Transfers.Flight_mono countersEmb (thr d i) ?_) $$ Hfl
  rw [hset]
  iintro ⟨HN, HK⟩
  isplitl [HN]
  · iexists _
    isplitr
    rotate_left
    · iexact HN
    ipureintro
    intro j
    rw [View.read_write_univ]
    show (KM : S1024x4096.Idx → BitVec 32) ((Rect.unit (s := S1024x4096) off S4x4096.size inb).emb j) = _
    rw [rect_emb _ hrow off hoff inb]
  · iexact HK

/-- Awaiting a copy of entries: the buffer holds the four rows, and the parity's rows of the array are whole again. -/
theorem wp_wait_in (N : Memref sig .scVector .vmem S4x4096 .i32) (sm : DmaSem sig) (p t : ℕ) (hp : p < 2) (ht : t < 4)
    {O : CellTallies nD τ sig (HIx 1)} {W : Waits sig (HIx 1)}
    {s' : Shape} {e' : EltTy} {srcw : Memref sig .scVector .hbm s' e'} {h1 : srcw.view.WordExact} {h2 : N.view.WordExact}
    {α : Type} {k : PUnit → Prog (TpuEff nD τ sig (Elt F) Λ₀ (.scVector ((i 0).castLE hcore1) ((i 1).castLE hsub1))) α} {Q : α → sProp 𝕄} :
    iprop(Transfers.MayWaits (thr d i) none O ∗ InFl d i KM N sm (rowAt (wOf i) p t)
        ∗ ((kW).view.loc (thr d i) ↦[tset (wOf i) p \ bset (rowAt (wOf i) p t)]{fullShare} KM) ∗ Owing d i O W : sProp 𝕄)
      ⊢ iprop((∀ g, ⌜KBis d i KM N g (rowAt (wOf i) p t)⌝ -∗ (N.view.loc (thr d i) ↦{fullShare} g) -∗ semVal (thr d i, .dma sm) 0
            -∗ ((kW).view.loc (thr d i) ↦[tset (wOf i) p]{fullShare} KM) -∗ Owing d i O W
            -∗ wp frame (wpE (defs₀ (F := F)) 𝒱₀ (thr d i) none) Set.univ (k ⟨⟩) Q)
          -∗ wp frame (wpE (defs₀ (F := F)) 𝒱₀ (thr d i) none) Set.univ (.op (.waitDma2 sm srcw N h1 h2) k) Q) := by
  unfold InFl Owing
  iintro ⟨Hmw, Hfl, HKr, ⟨%W', %hW', HO⟩⟩ Hk
  iapply (Transfers.wp_waitLocalO countersEmb 𝒱₀ (thr d i) none none rfl) $$ [Hmw Hfl HO]
  · isplitl [Hfl]; · iexact Hfl
    isplitl [HO]; · iexact HO
    iapply (Transfers.MayWaits.elim (.dma sm)) $$ Hmw
  iintro ⟨⟨⟨%g, %hg, HN⟩, HK⟩, Hs, HO⟩
  iapply Hk $$ [] HN Hs [HK HKr] [HO]
  · ipureintro; exact hg
  · iapply (pointsTo_split_subset (ℓ := (kW).view.loc (thr d i)) (q := fullShare) (f := KM) (bset_subset (w := wOf i) hp ht)).2
    isplitl [HK] <;> iassumption
  · iexists _
    isplitr
    rotate_left
    · iexact HO
    ipureintro
    intro q hq
    rcases Finset.mem_insert.mp hq with rfl | hq
    · exact .inr rfl
    · exact hW' q hq

theorem outN_pos : 0 < outN := by decide

/-- The output rows after one more batch: written with the buffer's counts, they hold their histograms below number
    `2(t + 1)`. -/
theorem outOK_succ (M : Memref sig .scVector .vmem S4x4096 .f32) (N : Memref sig .scVector .vmem S4x4096 .i32) (p t : ℕ) (hp : p < 2) (ht : t < 4)
    (off : Fin 2 → ℕ) (hoff : off = ![rowAt (wOf i) p t, 0]) (inb : ∀ a, off a + S4x4096.size a ≤ S1024x4096.size a)
    (h4 : ∀ a, (Rect.unit (s := S1024x4096) off S4x4096.size inb).stride a = 1)
    (g4 : Buf (Elt F) (N.view.loc (thr d i))) (hg4 : KBis d i KM N g4 (rowAt (wOf i) p t))
    (f : Buf (Elt F) ((oW).view.loc (thr d i))) (hf : OutOK d i KM p t f)
    (g : Buf (Elt F) (M.view.loc (thr d i))) (hg : Done (N.view.read (Elt F) g4) 4 (M.view.read (Elt F) g)) :
    OutOK d i KM p (t + 1) (((oW).slice (Rect.unit (s := S1024x4096) off S4x4096.size inb) h4).view.write (Elt F) f
      (M.view.read (Elt F) g) Finset.univ) := by
  have hw := wOf_lt i
  have hrow : rowAt (wOf i) p t + 4 ≤ 1024 := by unfold rowAt; omega
  have hset : ((oW).slice (Rect.unit (s := S1024x4096) off S4x4096.size inb) h4).view.set = bset (rowAt (wOf i) p t) :=
    (View.set_slice_whole _ _).trans (rect_set _ hrow off hoff inb)
  intro x hx hlt
  by_cases hb : x ∈ bset (rowAt (wOf i) p t)
  · have hb' := hb
    rw [← rect_set _ hrow off hoff inb, ← Rect.map_emb_univ] at hb'
    obtain ⟨j, -, rfl⟩ := Finset.mem_map.mp hb'
    refine (View.write_emb_of_mem (v := ((oW).slice (Rect.unit (s := S1024x4096) off S4x4096.size inb) h4).view) (Val := Elt F) f _ (Finset.mem_univ j)).trans ?_
    rw [cast_eq, done_four _ _ hg, rect_emb _ hrow off hoff inb]
    have h0 : (j 0).val < 4 := (j 0).isLt
    have h1 : (j 1).val < 4096 := (j 1).isLt
    unfold histOf
    have e0 : (atB (rowAt (wOf i) p t + (j 0).val) (j 1).val 0).val = rowAt (wOf i) p t + (j 0).val := Nat.mod_eq_of_lt (by omega)
    have e1 : (atB (rowAt (wOf i) p t + (j 0).val) (j 1).val 1).val = (j 1).val := Nat.mod_eq_of_lt h1
    rw [e0, e1]
    refine bump_congr _ fun n hn => ?_
    unfold rowOf
    rw [hg4]
    have e2 : ((at4 (j 0).val n) 0).val = (j 0).val := Nat.mod_eq_of_lt h0
    have e3 : ((at4 (j 0).val n) 1).val = n := Nat.mod_eq_of_lt (by unfold NK at hn; omega)
    rw [e2, e3]
  · refine (View.write_of_not_mem (v := ((oW).slice (Rect.unit (s := S1024x4096) off S4x4096.size inb) h4).view) (Val := Elt F) f _ Finset.univ (i := x) ?_).trans (hf x hx ?_)
    · intro hm; exact hb (hset ▸ hm)
    · rw [mem_bset] at hb
      rw [mem_tset] at hx
      unfold rowAt at hb
      omega

/-- Starting a copy of counts out. -/
theorem wp_start_out (M : Memref sig .scVector .vmem S4x4096 .f32) (hM : M.IsWhole) (N : Memref sig .scVector .vmem S4x4096 .i32) (sm : DmaSem sig) (p t : ℕ) (hp : p < 2) (ht : t < 4)
    (off : Fin 2 → ℕ) (hoff : off = ![rowAt (wOf i) p t, 0]) (inb : ∀ a, off a + S4x4096.size a ≤ S1024x4096.size a)
    {h4 : ∀ a, (Rect.unit (s := S1024x4096) off S4x4096.size inb).stride a = 1}
    {h1 : M.view.WordExact} {h2 : ((oW).slice (Rect.unit (s := S1024x4096) off S4x4096.size inb) h4).view.WordExact}
    {h3 : DmaTarget.Typed (nD := nD) (τ := τ) (p := .scVector ((i 0).castLE hcore1) ((i 1).castLE hsub1)) Space.vmem (.dma sm)
      (.here ((oW).slice (Rect.unit (s := S1024x4096) off S4x4096.size inb) h4))}
    {α : Type} {k : PUnit → Prog (TpuEff nD τ sig (Elt F) Λ₀ (.scVector ((i 0).castLE hcore1) ((i 1).castLE hsub1))) α} {Q : α → sProp 𝕄}
    (g4 : Buf (Elt F) (N.view.loc (thr d i))) (hg4 : KBis d i KM N g4 (rowAt (wOf i) p t))
    {f : Buf (Elt F) ((oW).view.loc (thr d i))} (hf : OutOK d i KM p t f)
    {g : Buf (Elt F) (M.view.loc (thr d i))} (hg : Done (N.view.read (Elt F) g4) 4 (M.view.read (Elt F) g)) :
    iprop((M.view.loc (thr d i) ↦{fullShare} g) ∗ semVal (thr d i, .dma sm) 0
        ∗ ((oW).view.loc (thr d i) ↦[tset (wOf i) p]{fullShare} f) : sProp 𝕄)
      ⊢ iprop((OutFl d i KM M sm p (t + 1)
            -∗ wp frame (wpE (defs₀ (F := F)) 𝒱₀ (thr d i) none) Set.univ (k ⟨⟩) Q)
          -∗ wp frame (wpE (defs₀ (F := F)) 𝒱₀ (thr d i) none) Set.univ
              (.op (.enqueueDma M (.here ((oW).slice (Rect.unit (s := S1024x4096) off S4x4096.size inb) h4)) (.dma sm) h1 h2 h3) k) Q) := by
  have hw := wOf_lt i
  have hrow : rowAt (wOf i) p t + 4 ≤ 1024 := by unfold rowAt; omega
  have hset : ((oW).slice (Rect.unit (s := S1024x4096) off S4x4096.size inb) h4).view.set = bset (rowAt (wOf i) p t) :=
    (View.set_slice_whole _ _).trans (rect_set _ hrow off hoff inb)
  iintro ⟨HM, Hs, HO⟩ Hk
  ihave HM := (Entails.of_eq (congrArg (fun S => (M.view.loc (thr d i) ↦[S]{fullShare} g : sProp 𝕄)) hM.set_eq_univ.symm)) $$ HM
  iapply (Transfers.wp_dmaLocal countersEmb 𝒱₀ (thr d i) none (Name := ℕ) (Sd := tset (wOf i) p) none outN rfl outN_pos
    (by rw [hset]; exact bset_subset hp ht)) $$ [HM Hs HO]
  · isplitl [HM]; · iexact HM
    isplitl [HO]; · iexact HO
    iexact Hs
  iintro Hfl
  iapply Hk
  unfold OutFl
  iapply (Transfers.Flight_mono countersEmb (thr d i) ?_) $$ Hfl
  rw [hM.set_eq_univ]
  iintro ⟨HO, HM⟩
  isplitl [HO]
  · iexists _
    isplitr
    rotate_left
    · iexact HO
    ipureintro
    exact outOK_succ d i KM M N p t hp ht off hoff inb h4 g4 hg4 f hf g hg
  · iexists g; iexact HM

/-- Awaiting a copy of counts out: the buffer and the parity's output rows come back. -/
theorem wp_wait_out (M : Memref sig .scVector .vmem S4x4096 .f32) (sm : DmaSem sig) (p t : ℕ)
    {O : CellTallies nD τ sig (HIx 1)} {W : Waits sig (HIx 1)}
    {off : Fin 2 → ℕ} {inb : ∀ a, off a + S4x4096.size a ≤ S1024x4096.size a}
    {h4 : ∀ a, (Rect.unit (s := S1024x4096) off S4x4096.size inb).stride a = 1}
    {h1 : M.view.WordExact} {h2 : ((oW).slice (Rect.unit (s := S1024x4096) off S4x4096.size inb) h4).view.WordExact}
    {α : Type} {k : PUnit → Prog (TpuEff nD τ sig (Elt F) Λ₀ (.scVector ((i 0).castLE hcore1) ((i 1).castLE hsub1))) α} {Q : α → sProp 𝕄} :
    iprop(Transfers.MayWaits (thr d i) none O ∗ OutFl d i KM M sm p t ∗ Owing d i O W : sProp 𝕄)
      ⊢ iprop((∀ f g, ⌜OutOK d i KM p t f⌝ -∗ (M.view.loc (thr d i) ↦{fullShare} g) -∗ semVal (thr d i, .dma sm) 0
            -∗ ((oW).view.loc (thr d i) ↦[tset (wOf i) p]{fullShare} f) -∗ Owing d i O W
            -∗ wp frame (wpE (defs₀ (F := F)) 𝒱₀ (thr d i) none) Set.univ (k ⟨⟩) Q)
          -∗ wp frame (wpE (defs₀ (F := F)) 𝒱₀ (thr d i) none) Set.univ
              (.op (.waitDma2 sm M ((oW).slice (Rect.unit (s := S1024x4096) off S4x4096.size inb) h4) h1 h2) k) Q) := by
  unfold OutFl Owing
  iintro ⟨Hmw, Hfl, ⟨%W', %hW', HO⟩⟩ Hk
  iapply (Transfers.wp_waitLocalO countersEmb 𝒱₀ (thr d i) none none rfl) $$ [Hmw Hfl HO]
  · isplitl [Hfl]; · iexact Hfl
    isplitl [HO]; · iexact HO
    iapply (Transfers.MayWaits.elim (.dma sm)) $$ Hmw
  iintro ⟨⟨⟨%f, %hf, Hf⟩, ⟨%g, HM⟩⟩, Hs, HO⟩
  iapply Hk $$ [] HM Hs Hf [HO]
  · ipureintro; exact hf
  · iexists _
    isplitr
    rotate_left
    · iexact HO
    ipureintro
    intro q hq
    rcases Finset.mem_insert.mp hq with rfl | hq
    · exact .inr rfl
    · exact hW' q hq

end Copies

end Cert.Proof.Main
-- ==== Proof.Offsets.lean ====
/-
  The numbers a tile computes, in closed form: the columns its loops touch, the rows its copies move, and when its
  conditional copies happen.
-/
module

public import proofs.«01_k».proof.Proof.Copies

@[expose] public section

noncomputable section

namespace Cert.Proof.Main

open Cert.KernelIdeal Cert.KernelIdeal.Gen Cert.Proof.Hist
open Idealize.ShloMosaic

/-- The column of trip `k`'s sixteen entries. -/
theorem col16 (k : ℕ) (hk : k < 256) :
    (Scalar.indexCast (Scalar.addi 0#32 (Scalar.muli (Scf.iv 0#32 1#32 k) 16#32)) : Index).toNat = 16 * k := by
  have h : ∀ k : Fin 256, (Scalar.indexCast (Scalar.addi 0#32 (Scalar.muli (Scf.iv 0#32 1#32 k.val) 16#32)) : Index).toNat = 16 * k.val := by
    decide +kernel
  exact h ⟨k, hk⟩

/-- The row a tile's first copy starts at. -/
theorem off1_eq (i : grid1.Coords) : k1_off1 i = ![rowAt (wOf i) 0 0, 0] := by
  have h : ∀ i : grid1.Coords, k1_off1 i 0 = rowAt (wOf i) 0 0 := by decide +kernel
  funext a; fin_cases a
  · exact h i
  · rfl

/-- The row a tile's second copy starts at. -/
theorem off2_eq (i : grid1.Coords) : k1_off2 i 4#32 = ![rowAt (wOf i) 1 0, 0] := by
  have h : ∀ i : grid1.Coords, k1_off2 i 4#32 0 = rowAt (wOf i) 1 0 := by decide +kernel
  funext a; fin_cases a
  · exact h i
  · rfl

/-- The rows of pass `t`'s even batch. -/
theorem off13_eq (i : grid1.Coords) (t : Fin k1_t1_loop.trips) : k1_off13 i t 0#32 = ![rowAt (wOf i) 0 t.val, 0] := by
  have h : ∀ (i : grid1.Coords) (t : Fin k1_t1_loop.trips), k1_off13 i t 0#32 0 = rowAt (wOf i) 0 t.val := by decide +kernel
  funext a; fin_cases a
  · exact h i t
  · rfl

/-- The rows of pass `t`'s odd batch. -/
theorem off24_eq (i : grid1.Coords) (t : Fin k1_t1_loop.trips) : k1_off24 i t = ![rowAt (wOf i) 1 t.val, 0] := by
  have h : ∀ (i : grid1.Coords) (t : Fin k1_t1_loop.trips), k1_off24 i t 0 = rowAt (wOf i) 1 t.val := by decide +kernel
  funext a; fin_cases a
  · exact h i t
  · rfl

/-- The rows of the next pass's even batch. -/
theorem off14_eq (i : grid1.Coords) (t : Fin k1_t1_loop.trips) : k1_off14 i t = ![rowAt (wOf i) 0 (t.val + 1), 0] := by
  have h : ∀ (i : grid1.Coords) (t : Fin k1_t1_loop.trips), k1_off14 i t 0 = rowAt (wOf i) 0 (t.val + 1) := by decide +kernel
  funext a; fin_cases a
  · exact h i t
  · rfl

/-- The rows of the next pass's odd batch. -/
theorem off25_eq (i : grid1.Coords) (t : Fin k1_t1_loop.trips) : k1_off25 i t = ![rowAt (wOf i) 1 (t.val + 1), 0] := by
  have h : ∀ (i : grid1.Coords) (t : Fin k1_t1_loop.trips), k1_off25 i t 0 = rowAt (wOf i) 1 (t.val + 1) := by decide +kernel
  funext a; fin_cases a
  · exact h i t
  · rfl

/-- A pass awaits the even batch's earlier copy out unless it is the first. -/
theorem cond1_iff (t : Fin k1_t1_loop.trips) : k1_cond1 t = 1#1 ↔ t.val ≠ 0 := by
  have h : ∀ t : Fin k1_t1_loop.trips, k1_cond1 t = 1#1 ↔ t.val ≠ 0 := by decide +kernel
  exact h t

/-- A pass starts the next even batch's copy in unless it is the last. -/
theorem cond2_iff (t : Fin k1_t1_loop.trips) : k1_cond2 t = 1#1 ↔ t.val + 1 < 4 := by
  have h : ∀ t : Fin k1_t1_loop.trips, k1_cond2 t = 1#1 ↔ t.val + 1 < 4 := by decide +kernel
  exact h t

/-- A pass awaits the odd batch's earlier copy out unless it is the first. -/
theorem cond3_iff (t : Fin k1_t1_loop.trips) : k1_cond3 t = 1#1 ↔ t.val ≠ 0 := by
  have h : ∀ t : Fin k1_t1_loop.trips, k1_cond3 t = 1#1 ↔ t.val ≠ 0 := by decide +kernel
  exact h t

/-- A pass starts the next odd batch's copy in unless it is the last. -/
theorem cond4_iff (t : Fin k1_t1_loop.trips) : k1_cond4 t = 1#1 ↔ t.val + 1 < 4 := by
  have h : ∀ t : Fin k1_t1_loop.trips, k1_cond4 t = 1#1 ↔ t.val + 1 < 4 := by decide +kernel
  exact h t

theorem trips1 : k1_t1_loop.trips = 4 := by decide

/-- The lanes of the masked store: the first eleven. -/
theorem pay3_iff (k : Fin 16) : k1_pay3 (Shape.ofLane (d := ![16]) k) = 1 ↔ k.val < 11 := by
  have h : ∀ k : Fin 16, k1_pay3 (Shape.ofLane (d := ![16]) k) = 1 ↔ k.val < 11 := by decide +kernel
  exact h k

end Cert.Proof.Main
-- ==== Proof.Row.lean ====
/-
  One row of a batch as one rule: zero the row, scatter its first 4080 entries, scatter its last eleven. A pass of the
  tile's loop applies it eight times.
-/
module

public import proofs.«01_k».proof.Proof.Offsets

@[expose] public section

noncomputable section

namespace Cert.Proof.Main

open Cert.KernelIdeal Cert.KernelIdeal.Gen Cert.Proof.Hist
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

section Row

variable (d : Dev nD) (cc : Fin τ.nSC) (ss : Fin τ.nSub)

/-- A row from start to end: the rows counted so far grow by one. -/
theorem wp_row (M : Memref sig .scVector .vmem S4x4096 .f32) (hM : M.IsWhole)
    (N : Memref sig .scVector .vmem S4x4096 .i32) (g4 : Buf (Elt F) (N.view.loc (V d cc ss)))
    (hsm : Small (N.view.read (Elt F) g4)) (r : ℕ) (hr : r < 4)
    (L1 : Scf.Loop 32) (hok1 : L1.OK) (hN1 : L1.trips = 256)
    (off1 : Fin L1.trips → Fin 2 → ℕ) (hoff1 : ∀ k, off1 k = ![r, 16 * k.val])
    (inb1 : ∀ k a, off1 k a + S1x16.size a ≤ S4x4096.size a)
    (body1 : Fin L1.trips → Unit → Prog (TpuEff nD τ sig (Elt F) Λ₀ (.scVector cc ss)) Unit)
    (hl1 : ∀ k, M.view.LoadsAt (Rect.unit (s := S4x4096) (off1 k) S1x16.size (inb1 k)).toLoadRect)
    (hst1 : ∀ k, (M.access (Rect.unit (s := S4x4096) (off1 k) S1x16.size (inb1 k))).Stores Finset.univ)
    (hbody1 : ∀ k u, body1 k u = .op (.load M (Rect.unit (s := S4x4096) (off1 k) S1x16.size (inb1 k)).toLoadRect (hl1 k)) fun _ =>
      .op (.store M (Rect.unit (s := S4x4096) (off1 k) S1x16.size (inb1 k)) (shapeCast S1x16 (k1_pay1 (F := F)) shapeCasts_S16_S1x16)
        Finset.univ (hst1 k) (.inl rfl)) fun _ => .ret ⟨⟩)
    (L2 : Scf.Loop 32) (hok2 : L2.OK) (hN2 : L2.trips = 255)
    (off2 : Fin L2.trips → Fin 2 → ℕ) (hoff2 : ∀ k, off2 k = ![r, 16 * k.val])
    (inb2 : ∀ k a, off2 k a + S1x16.size a ≤ S4x4096.size a)
    (rs : IVec S16 32) (hrs : ∀ x, (rs x).toNat = r)
    (body2 : Fin L2.trips → Unit → Prog (TpuEff nD τ sig (Elt F) Λ₀ (.scVector cc ss)) Unit)
    (hl2 : ∀ k, N.view.LoadsAt (Rect.unit (s := S4x4096) (off2 k) S1x16.size (inb2 k)).toLoadRect)
    (hst2 : (M.access (.whole S4x4096)).Stores Finset.univ)
    (dec2 : ∀ x : IVec S16 32, Decidable (∀ a y, ((![rs, x] : Fin 2 → IVec S16 32) a y).toNat < S4x4096.size a))
    (hbody2 : ∀ k u, body2 k u = .op (.load N (Rect.unit (s := S4x4096) (off2 k) S1x16.size (inb2 k)).toLoadRect (hl2 k)) fun (ld : Vec F S1x16 .i32) =>
      .op (.assume _ (dec2 (shapeCast S16 ld shapeCasts_S1x16_S16))) fun hw =>
        SparseCore.vectorStoreIdx M ![rs, shapeCast S16 ld shapeCasts_S1x16_S16] (k1_pay2 (F := F)) (fun _ => 1#1) true hw.down hst2
          >>= fun _ => .ret ⟨⟩)
    (off3 : Fin 2 → ℕ) (hoff3 : off3 = ![r, 4080]) (inb3 : ∀ a, off3 a + S1x16.size a ≤ S4x4096.size a)
    {hl3 : N.view.LoadsAt (Rect.unit (s := S4x4096) off3 S1x16.size inb3).toLoadRect}
    {dec3 : ∀ x : IVec S16 32, Decidable (∀ a y, ((![rs, x] : Fin 2 → IVec S16 32) a y).toNat < S4x4096.size a)}
    {hst3 : (M.access (.whole S4x4096)).Stores Finset.univ}
    {α : Type} {kk : Vec F S1x16 .i32 → Unit → Prog (TpuEff nD τ sig (Elt F) Λ₀ (.scVector cc ss)) α} {Q : α → sProp 𝕄}
    {f : Buf (Elt F) (M.view.loc (V d cc ss))} (hd : Done (N.view.read (Elt F) g4) r (M.view.read (Elt F) f)) :
    iprop((M.view.loc (V d cc ss) ↦{fullShare} f) ∗ (N.view.loc (V d cc ss) ↦{fullShare} g4) : sProp 𝕄)
      ⊢ iprop((∀ f' ld, ⌜Done (N.view.read (Elt F) g4) (r + 1) (M.view.read (Elt F) f')⌝
            -∗ (M.view.loc (V d cc ss) ↦{fullShare} f') -∗ (N.view.loc (V d cc ss) ↦{fullShare} g4)
            -∗ wp frame (wpE (defs₀ (F := F)) 𝒱₀ (V d cc ss) none) Set.univ (kk ld ⟨⟩) Q)
          -∗ wp frame (wpE (defs₀ (F := F)) 𝒱₀ (V d cc ss) none) Set.univ
              (Scf.Loop.for L1 hok1 ⟨⟩ body1 >>= fun _ => Scf.Loop.for L2 hok2 ⟨⟩ body2 >>= fun _ =>
                .op (.load N (Rect.unit (s := S4x4096) off3 S1x16.size inb3).toLoadRect hl3) fun (ld : Vec F S1x16 .i32) =>
                  .op (.assume _ (dec3 (shapeCast S16 ld shapeCasts_S1x16_S16))) fun hw =>
                    SparseCore.vectorStoreIdx M ![rs, shapeCast S16 ld shapeCasts_S1x16_S16] (k1_pay2 (F := F)) k1_pay3 true hw.down hst3
                      >>= kk ld) Q) := by
  iintro ⟨H, HN⟩ Hk
  iapply (wp_zero_loop d cc ss M (N.view.read (Elt F) g4) r hr L1 hok1 hN1 off1 hoff1 inb1 _ (fun _ => rfl) body1 hl1 hst1 hbody1 hd) $$ H
  iintro %f1 %h1 H
  iapply (wp_chunk_loop d cc ss M hM N g4 hsm r hr L2 hok2 hN2 off2 hoff2 inb2 rs hrs _ (fun _ => rfl) body2 hl2 hst2 dec2 hbody2 h1.1 h1.2) $$ [H HN]
  · isplitl [H] <;> iassumption
  iintro %f2 %h2 H HN
  iapply (wp_load (defs := defs₀ (F := F)) 𝒱₀ (V d cc ss) none Set.univ (m := N) (S := Finset.univ) (Finset.subset_univ _)) $$ HN
  iintro HN
  rw [wp_assume_of _ _ _ _ (chk_of_small N g4 hsm rs r hr hrs _ _)]
  iapply (wp_store_row (F := F) d cc ss M hM (N.view.read (Elt F) g4) r 4080 11 rs _ _ _ _ hst3 hrs
    (fun l => lane_eq N g4 r 4080 hr (by omega) off3 hoff3 inb3 l) (fun _ => rfl) pay3_iff h2.1 h2.2) $$ H
  iintro %f3 %h3 H
  iapply Hk $$ [] H HN
  ipureintro
  exact done_succ _ r _ h3.1 h3.2

end Row

end Cert.Proof.Main
-- ==== Proof.Pass.lean ====
/-
  One pass of the tile's loop: an even batch of four rows and an odd one, each copied in, counted and copied out, with the
  next pass's copies started and the previous pass's awaited. The state between passes is, per parity, a copy in (in
  flight, or done when none is left) and a copy out (in flight, or not yet any).
-/
module

public import proofs.«01_k».proof.Proof.Row

@[expose] public section

noncomputable section

namespace Cert.Proof.Main

open Cert.KernelIdeal Cert.KernelIdeal.Gen Cert.Proof.Hist
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "kW" => (Memref.whole main_v1_scv)
local notation "oW" => (Memref.whole main_v2_scv)
local notation "b0" => (Memref.whole cc1_scratch0)
local notation "b1" => (Memref.whole cc1_scratch1)
local notation "r0" => (Memref.whole cc1_scratch2)
local notation "r1" => (Memref.whole cc1_scratch3)

section Pass

variable (d : Dev nD) (i : grid1.Coords) (KM : Buf (Elt F) ((kW).view.loc (thr d i)))

/-- The copy in of parity `p` before pass `t`: in flight, or none left. -/
def InSt (N : Memref sig .scVector .vmem S4x4096 .i32) (sm : DmaSem sig) (p t : ℕ) : sProp 𝕄 :=
  if t < 4 then iprop(InFl d i KM N sm (rowAt (wOf i) p t)
      ∗ ((kW).view.loc (thr d i) ↦[tset (wOf i) p \ bset (rowAt (wOf i) p t)]{fullShare} KM))
  else iprop((∃ g, N.view.loc (thr d i) ↦{fullShare} g) ∗ semVal (thr d i, .dma sm) 0
      ∗ ((kW).view.loc (thr d i) ↦[tset (wOf i) p]{fullShare} KM))

/-- The copy out of parity `p` before pass `t`: none yet, or in flight. -/
def OutSt (M : Memref sig .scVector .vmem S4x4096 .f32) (sm : DmaSem sig) (p t : ℕ) : sProp 𝕄 :=
  if t = 0 then iprop((∃ g, M.view.loc (thr d i) ↦{fullShare} g) ∗ semVal (thr d i, .dma sm) 0
      ∗ ∃ f, (oW).view.loc (thr d i) ↦[tset (wOf i) p]{fullShare} f)
  else OutFl d i KM M sm p t

theorem inSt_lt (N : Memref sig .scVector .vmem S4x4096 .i32) (sm : DmaSem sig) (p t : ℕ) (h : t < 4) :
    InSt d i KM N sm p t = iprop(InFl d i KM N sm (rowAt (wOf i) p t)
      ∗ ((kW).view.loc (thr d i) ↦[tset (wOf i) p \ bset (rowAt (wOf i) p t)]{fullShare} KM)) := if_pos h

theorem inSt_end (N : Memref sig .scVector .vmem S4x4096 .i32) (sm : DmaSem sig) (p t : ℕ) (h : ¬ t < 4) :
    InSt d i KM N sm p t = iprop((∃ g, N.view.loc (thr d i) ↦{fullShare} g) ∗ semVal (thr d i, .dma sm) 0
      ∗ ((kW).view.loc (thr d i) ↦[tset (wOf i) p]{fullShare} KM)) := if_neg h

theorem outSt_zero (M : Memref sig .scVector .vmem S4x4096 .f32) (sm : DmaSem sig) (p t : ℕ) (h : t = 0) :
    OutSt d i KM M sm p t = iprop((∃ g, M.view.loc (thr d i) ↦{fullShare} g) ∗ semVal (thr d i, .dma sm) 0
      ∗ ∃ f, (oW).view.loc (thr d i) ↦[tset (wOf i) p]{fullShare} f) := if_pos h

theorem outSt_pos (M : Memref sig .scVector .vmem S4x4096 .f32) (sm : DmaSem sig) (p t : ℕ) (h : t ≠ 0) :
    OutSt d i KM M sm p t = OutFl d i KM M sm p t := if_neg h

/-- Entries below 4096 are read below 4096. -/
theorem small_of (N : Memref sig .scVector .vmem S4x4096 .i32) (row : ℕ) (g : Buf (Elt F) (N.view.loc (thr d i)))
    (hKM : ∀ x, (KM x : BitVec 32).toNat < 4096) (hg : KBis d i KM N g row) : Small (N.view.read (Elt F) g) := fun j => by
  rw [hg]; exact hKM _

/-- The conditional wait for the previous pass's copy out: afterwards the counts' buffer and the parity's output rows are
    the thread's, the rows of the batches before this pass holding their histograms. -/
theorem wp_await_out (M : Memref sig .scVector .vmem S4x4096 .f32) (sm : DmaSem sig) (p t : ℕ)
    (c : Prop) [Decidable c] (hc : c ↔ t ≠ 0)
    {O : CellTallies nD τ sig (HIx 1)} {W : Waits sig (HIx 1)}
    {off : Fin 2 → ℕ} {inb : c → ∀ a, off a + S4x4096.size a ≤ S1024x4096.size a}
    {h4 : ∀ h : c, ∀ a, (Rect.unit (s := S1024x4096) off S4x4096.size (inb h)).stride a = 1}
    {h1 : M.view.WordExact} {h2 : ∀ h : c, ((oW).slice (Rect.unit (s := S1024x4096) off S4x4096.size (inb h)) (h4 h)).view.WordExact}
    {α β : Type} {k : PUnit → Prog (TpuEff nD τ sig (Elt F) Λ₀ (.scVector ((i 0).castLE hcore1) ((i 1).castLE hsub1))) β}
    {k2 : β → Prog (TpuEff nD τ sig (Elt F) Λ₀ (.scVector ((i 0).castLE hcore1) ((i 1).castLE hsub1))) α} {Q : α → sProp 𝕄} :
    iprop(Transfers.MayWaits (thr d i) none O ∗ OutSt d i KM M sm p t ∗ Owing d i O W : sProp 𝕄)
      ⊢ iprop((∀ f g, ⌜OutOK d i KM p t f⌝ -∗ (M.view.loc (thr d i) ↦{fullShare} g) -∗ semVal (thr d i, .dma sm) 0
            -∗ ((oW).view.loc (thr d i) ↦[tset (wOf i) p]{fullShare} f) -∗ Owing d i O W
            -∗ wp frame (wpE (defs₀ (F := F)) 𝒱₀ (thr d i) none) Set.univ (k ⟨⟩ >>= k2) Q)
          -∗ wp frame (wpE (defs₀ (F := F)) 𝒱₀ (thr d i) none) Set.univ
              ((if h : c then (.op (.waitDma2 sm M ((oW).slice (Rect.unit (s := S1024x4096) off S4x4096.size (inb h)) (h4 h)) h1 (h2 h)) k)
                else k ⟨⟩) >>= k2) Q) := by
  by_cases h : c
  · have ht := hc.mp h
    rw [dif_pos h, outSt_pos d i KM M sm p t ht]
    rw [Prog.bind_op]
    exact wp_wait_out d i KM M sm p t (O := O) (W := W) (off := off) (inb := inb h) (h4 := h4 h) (k := fun x => k x >>= k2)
  · have ht : t = 0 := by by_contra h'; exact h (hc.mpr h')
    rw [dif_neg h, outSt_zero d i KM M sm p t ht]
    iintro ⟨-, ⟨⟨%g, HM⟩, Hs, ⟨%f, Hf⟩⟩, HO⟩ Hk
    iapply Hk $$ [] HM Hs Hf HO
    ipureintro
    rw [ht]
    exact outOK_zero d i KM p f

/-- The conditional start of the next pass's copy in. -/
theorem wp_next_in (N : Memref sig .scVector .vmem S4x4096 .i32) (hN : N.IsWhole) (hN0 : 0 < N.view.dmaCredit) (sm : DmaSem sig) (p t : ℕ) (hp : p < 2)
    (c : Prop) [Decidable c] (hc : c ↔ t + 1 < 4)
    (off : Fin 2 → ℕ) (hoff : off = ![rowAt (wOf i) p (t + 1), 0]) (inb : c → ∀ a, off a + S4x4096.size a ≤ S1024x4096.size a)
    {h4 : ∀ h : c, ∀ a, (Rect.unit (s := S1024x4096) off S4x4096.size (inb h)).stride a = 1}
    {h1 : ∀ h : c, ((kW).slice (Rect.unit (s := S1024x4096) off S4x4096.size (inb h)) (h4 h)).view.WordExact}
    {h2 : N.view.WordExact}
    {h3 : c → DmaTarget.Typed (nD := nD) (τ := τ) (p := .scVector ((i 0).castLE hcore1) ((i 1).castLE hsub1)) Space.hbm (.dma sm) (.here N)}
    {α β : Type} {k : PUnit → Prog (TpuEff nD τ sig (Elt F) Λ₀ (.scVector ((i 0).castLE hcore1) ((i 1).castLE hsub1))) β}
    {k2 : β → Prog (TpuEff nD τ sig (Elt F) Λ₀ (.scVector ((i 0).castLE hcore1) ((i 1).castLE hsub1))) α} {Q : α → sProp 𝕄}
    (g : Buf (Elt F) (N.view.loc (thr d i))) :
    iprop((N.view.loc (thr d i) ↦{fullShare} g) ∗ semVal (thr d i, .dma sm) 0
        ∗ ((kW).view.loc (thr d i) ↦[tset (wOf i) p]{fullShare} KM) : sProp 𝕄)
      ⊢ iprop((InSt d i KM N sm p (t + 1)
            -∗ wp frame (wpE (defs₀ (F := F)) 𝒱₀ (thr d i) none) Set.univ (k ⟨⟩ >>= k2) Q)
          -∗ wp frame (wpE (defs₀ (F := F)) 𝒱₀ (thr d i) none) Set.univ
              ((if h : c then (.op (.enqueueDma ((kW).slice (Rect.unit (s := S1024x4096) off S4x4096.size (inb h)) (h4 h)) (.here N) (.dma sm) (h1 h) h2 (h3 h)) k)
                else k ⟨⟩) >>= k2) Q) := by
  by_cases h : c
  · have ht := hc.mp h
    rw [dif_pos h, inSt_lt d i KM N sm p (t + 1) ht]
    rw [Prog.bind_op]
    iintro H Hk
    iapply (wp_start_in d i KM N hN hN0 sm p (t + 1) hp ht off hoff (inb h)) $$ H
    iintro H1 H2
    iapply Hk
    isplitl [H1] <;> iassumption
  · rw [dif_neg h, inSt_end d i KM N sm p (t + 1) (fun h' => h (hc.mpr h'))]
    iintro ⟨HN, Hs, HK⟩ Hk
    iapply Hk
    isplitl [HN]
    · iexists g; iexact HN
    isplitl [Hs] <;> iassumption

/-- The state between passes. -/
def PassSt (O : CellTallies nD τ sig (HIx 1)) (W : Waits sig (HIx 1)) (t : ℕ) : sProp 𝕄 :=
  iprop(InSt d i KM b0 cc1_scratch4.sem 0 t ∗ InSt d i KM b1 cc1_scratch5.sem 1 t
    ∗ OutSt d i KM r0 cc1_scratch6.sem 0 t ∗ OutSt d i KM r1 cc1_scratch7.sem 1 t ∗ Owing d i O W)

set_option maxHeartbeats 4000000 in
/-- One pass takes the state before it to the state after it. -/
theorem wp_pass (hKM : ∀ x, (KM x : BitVec 32).toNat < 4096) (O : CellTallies nD τ sig (HIx 1)) (W : Waits sig (HIx 1))
    (t : Fin k1_t1_loop.trips) (v2 : BitVec 32) :
    iprop(Transfers.MayWaits (thr d i) none O ∗ PassSt d i KM O W t.val : sProp 𝕄)
      ⊢ wp frame (wpE (defs₀ (F := F)) 𝒱₀ (thr d i) none) Set.univ
          (k1_t1_body i kW (Memref.isWhole_whole _) oW (Memref.isWhole_whole _) b0 (Memref.isWhole_whole _) b1 (Memref.isWhole_whole _)
            r0 (Memref.isWhole_whole _) r1 (Memref.isWhole_whole _) cc1_scratch4 cc1_scratch5 cc1_scratch6 cc1_scratch7 v2 t ⟨⟩)
          fun _ => PassSt d i KM O W (t.val + 1) := by
  have ht : t.val < 4 := lt_of_lt_of_eq t.isLt trips1
  unfold k1_t1_body
  simp only [k1_part1_eq_skeleton, k1_part2_eq_skeleton, k1_part3_eq_skeleton]
  unfold k1_part1_skel k1_part2_skel k1_part3_skel
  simp only [Prog.lift, Prog.bind_op, Prog.bind_ret, Prog.pure_eq_ret, bind_assoc]
  unfold PassSt
  rw [inSt_lt d i KM _ _ 0 t.val ht, inSt_lt d i KM _ _ 1 t.val ht]
  iintro ⟨#Hmw, ⟨Hi0, HK0⟩, ⟨Hi1, HK1⟩, Ho0, Ho1, HO⟩
  iapply (wp_wait_in d i KM b0 cc1_scratch4.sem 0 t.val (by decide) ht (O := O) (W := W)) $$ [Hi0 HK0 HO]
  · isplitl []; · iexact Hmw
    isplitl [Hi0]; · iexact Hi0
    isplitl [HK0] <;> iassumption
  iintro %g0 %hg0 HN0 Hs0 HK0 HO
  iapply (wp_await_out d i KM r0 cc1_scratch6.sem 0 t.val (k1_cond1 t = 1#1) (cond1_iff t) (O := O) (W := W)) $$ [Ho0 HO]
  · isplitl []; · iexact Hmw
    isplitl [Ho0] <;> iassumption
  iintro %f0 %q0 %hf0 HM0 Hq0 HF0 HO
  simp only [Prog.bind_op, Prog.bind_ret, bind_assoc]
  have hsm0 := small_of d i KM b0 _ g0 hKM hg0
  iapply (wp_row d _ _ r0 (Memref.isWhole_whole _) b0 g0 hsm0 0 (by decide) k1_t2_loop k1_t2_ok (by decide) k1_off5
    (fun k => congrArg (fun n => ![0, n]) (col16 k.val (lt_of_lt_of_eq k.isLt (by decide)))) k1_off5_inb _
    (fun _ => View.loadsAt_vmem h_S1x16) (fun _ => View.stores_vmem_bits_univ h_S1x16 rfl) (fun _ _ => rfl)
    k1_t3_loop k1_t3_ok (by decide) k1_off6
    (fun k => congrArg (fun n => ![0, n]) (col16 k.val (lt_trans (lt_of_lt_of_eq k.isLt (show _ = 255 by decide)) (by decide)))) k1_off6_inb
    (broadcast S16 0#32) (fun _ => rfl) _ (fun _ => View.loadsAt_vmem h_S1x16) (View.stores_vmem_bits_univ h_S4x4096 rfl) (k1_chk1.dec _) (fun _ _ => rfl)
    ![0, 4080] rfl inb_S4x4096_S1x16_0_4080 (f := q0) (done_zero _ _)) $$ [HM0 HN0]
  · isplitl [HM0] <;> iassumption
  iintro %u00 %l00 %hu00 HM0 HN0
  iapply (wp_row d _ _ r0 (Memref.isWhole_whole _) b0 g0 hsm0 1 (by decide) k1_t4_loop k1_t4_ok (by decide) k1_off7
    (fun k => congrArg (fun n => ![1, n]) (col16 k.val (lt_of_lt_of_eq k.isLt (by decide)))) k1_off7_inb _
    (fun _ => View.loadsAt_vmem h_S1x16) (fun _ => View.stores_vmem_bits_univ h_S1x16 rfl) (fun _ _ => rfl)
    k1_t5_loop k1_t5_ok (by decide) k1_off8
    (fun k => congrArg (fun n => ![1, n]) (col16 k.val (lt_trans (lt_of_lt_of_eq k.isLt (show _ = 255 by decide)) (by decide)))) k1_off8_inb
    (broadcast S16 1#32) (fun _ => rfl) _ (fun _ => View.loadsAt_vmem h_S1x16) (View.stores_vmem_bits_univ h_S4x4096 rfl) (k1_chk3.dec _) (fun _ _ => rfl)
    ![1, 4080] rfl inb_S4x4096_S1x16_1_4080 (f := u00) hu00) $$ [HM0 HN0]
  · isplitl [HM0] <;> iassumption
  iintro %u01 %l01 %hu01 HM0 HN0
  iapply (wp_row d _ _ r0 (Memref.isWhole_whole _) b0 g0 hsm0 2 (by decide) k1_t6_loop k1_t6_ok (by decide) k1_off9
    (fun k => congrArg (fun n => ![2, n]) (col16 k.val (lt_of_lt_of_eq k.isLt (by decide)))) k1_off9_inb _
    (fun _ => View.loadsAt_vmem h_S1x16) (fun _ => View.stores_vmem_bits_univ h_S1x16 rfl) (fun _ _ => rfl)
    k1_t7_loop k1_t7_ok (by decide) k1_off10
    (fun k => congrArg (fun n => ![2, n]) (col16 k.val (lt_trans (lt_of_lt_of_eq k.isLt (show _ = 255 by decide)) (by decide)))) k1_off10_inb
    (broadcast S16 2#32) (fun _ => rfl) _ (fun _ => View.loadsAt_vmem h_S1x16) (View.stores_vmem_bits_univ h_S4x4096 rfl) (k1_chk5.dec _) (fun _ _ => rfl)
    ![2, 4080] rfl inb_S4x4096_S1x16_2_4080 (f := u01) hu01) $$ [HM0 HN0]
  · isplitl [HM0] <;> iassumption
  iintro %u02 %l02 %hu02 HM0 HN0
  iapply (wp_row d _ _ r0 (Memref.isWhole_whole _) b0 g0 hsm0 3 (by decide) k1_t8_loop k1_t8_ok (by decide) k1_off11
    (fun k => congrArg (fun n => ![3, n]) (col16 k.val (lt_of_lt_of_eq k.isLt (by decide)))) k1_off11_inb _
    (fun _ => View.loadsAt_vmem h_S1x16) (fun _ => View.stores_vmem_bits_univ h_S1x16 rfl) (fun _ _ => rfl)
    k1_t9_loop k1_t9_ok (by decide) k1_off12
    (fun k => congrArg (fun n => ![3, n]) (col16 k.val (lt_trans (lt_of_lt_of_eq k.isLt (show _ = 255 by decide)) (by decide)))) k1_off12_inb
    (broadcast S16 3#32) (fun _ => rfl) _ (fun _ => View.loadsAt_vmem h_S1x16) (View.stores_vmem_bits_univ h_S4x4096 rfl) (k1_chk7.dec _) (fun _ _ => rfl)
    ![3, 4080] rfl inb_S4x4096_S1x16_3_4080 (f := u02) hu02) $$ [HM0 HN0]
  · isplitl [HM0] <;> iassumption
  iintro %u03 %l03 %hu03 HM0 HN0
  iapply (wp_start_out d i KM r0 (Memref.isWhole_whole _) b0 cc1_scratch6.sem 0 t.val (by decide) ht
    (k1_off13 i t 0#32) (off13_eq i t) (k1_off13_inb i t 0) g0 hg0 hf0 hu03) $$ [HM0 Hq0 HF0]
  · isplitl [HM0]; · iexact HM0
    isplitl [Hq0] <;> iassumption
  iintro Ho0
  iapply (wp_next_in d i KM b0 (Memref.isWhole_whole _) (by decide) cc1_scratch4.sem 0 t.val (by decide) (k1_cond2 t = 1#1) (cond2_iff t)
    (k1_off14 i t) (off14_eq i t) (k1_off14_inb i t) g0) $$ [HN0 Hs0 HK0]
  · isplitl [HN0]; · iexact HN0
    isplitl [Hs0] <;> iassumption
  iintro Hi0
  simp only [Prog.bind_op, Prog.bind_ret, bind_assoc]
  iapply (wp_wait_in d i KM b1 cc1_scratch5.sem 1 t.val (by decide) ht (O := O) (W := W)) $$ [Hi1 HK1 HO]
  · isplitl []; · iexact Hmw
    isplitl [Hi1]; · iexact Hi1
    isplitl [HK1] <;> iassumption
  iintro %g1 %hg1 HN1 Hs1 HK1 HO
  iapply (wp_await_out d i KM r1 cc1_scratch7.sem 1 t.val (k1_cond3 t = 1#1) (cond3_iff t) (O := O) (W := W)) $$ [Ho1 HO]
  · isplitl []; · iexact Hmw
    isplitl [Ho1] <;> iassumption
  iintro %f1 %q1 %hf1 HM1 Hq1 HF1 HO
  simp only [Prog.bind_op, Prog.bind_ret, bind_assoc]
  have hsm1 := small_of d i KM b1 _ g1 hKM hg1
  iapply (wp_row d _ _ r1 (Memref.isWhole_whole _) b1 g1 hsm1 0 (by decide) k1_t10_loop k1_t10_ok (by decide) k1_off16
    (fun k => congrArg (fun n => ![0, n]) (col16 k.val (lt_of_lt_of_eq k.isLt (by decide)))) k1_off16_inb _
    (fun _ => View.loadsAt_vmem h_S1x16) (fun _ => View.stores_vmem_bits_univ h_S1x16 rfl) (fun _ _ => rfl)
    k1_t11_loop k1_t11_ok (by decide) k1_off17
    (fun k => congrArg (fun n => ![0, n]) (col16 k.val (lt_trans (lt_of_lt_of_eq k.isLt (show _ = 255 by decide)) (by decide)))) k1_off17_inb
    (broadcast S16 0#32) (fun _ => rfl) _ (fun _ => View.loadsAt_vmem h_S1x16) (View.stores_vmem_bits_univ h_S4x4096 rfl) (k1_chk9.dec _) (fun _ _ => rfl)
    ![0, 4080] rfl inb_S4x4096_S1x16_0_4080 (f := q1) (done_zero _ _)) $$ [HM1 HN1]
  · isplitl [HM1] <;> iassumption
  iintro %u10 %l10 %hu10 HM1 HN1
  iapply (wp_row d _ _ r1 (Memref.isWhole_whole _) b1 g1 hsm1 1 (by decide) k1_t12_loop k1_t12_ok (by decide) k1_off18
    (fun k => congrArg (fun n => ![1, n]) (col16 k.val (lt_of_lt_of_eq k.isLt (by decide)))) k1_off18_inb _
    (fun _ => View.loadsAt_vmem h_S1x16) (fun _ => View.stores_vmem_bits_univ h_S1x16 rfl) (fun _ _ => rfl)
    k1_t13_loop k1_t13_ok (by decide) k1_off19
    (fun k => congrArg (fun n => ![1, n]) (col16 k.val (lt_trans (lt_of_lt_of_eq k.isLt (show _ = 255 by decide)) (by decide)))) k1_off19_inb
    (broadcast S16 1#32) (fun _ => rfl) _ (fun _ => View.loadsAt_vmem h_S1x16) (View.stores_vmem_bits_univ h_S4x4096 rfl) (k1_chk11.dec _) (fun _ _ => rfl)
    ![1, 4080] rfl inb_S4x4096_S1x16_1_4080 (f := u10) hu10) $$ [HM1 HN1]
  · isplitl [HM1] <;> iassumption
  iintro %u11 %l11 %hu11 HM1 HN1
  iapply (wp_row d _ _ r1 (Memref.isWhole_whole _) b1 g1 hsm1 2 (by decide) k1_t14_loop k1_t14_ok (by decide) k1_off20
    (fun k => congrArg (fun n => ![2, n]) (col16 k.val (lt_of_lt_of_eq k.isLt (by decide)))) k1_off20_inb _
    (fun _ => View.loadsAt_vmem h_S1x16) (fun _ => View.stores_vmem_bits_univ h_S1x16 rfl) (fun _ _ => rfl)
    k1_t15_loop k1_t15_ok (by decide) k1_off21
    (fun k => congrArg (fun n => ![2, n]) (col16 k.val (lt_trans (lt_of_lt_of_eq k.isLt (show _ = 255 by decide)) (by decide)))) k1_off21_inb
    k1_pay4 (fun _ => rfl) _ (fun _ => View.loadsAt_vmem h_S1x16) (View.stores_vmem_bits_univ h_S4x4096 rfl) (k1_chk13.dec _) (fun _ _ => rfl)
    ![2, 4080] rfl inb_S4x4096_S1x16_2_4080 (f := u11) hu11) $$ [HM1 HN1]
  · isplitl [HM1] <;> iassumption
  iintro %u12 %l12 %hu12 HM1 HN1
  iapply (wp_row d _ _ r1 (Memref.isWhole_whole _) b1 g1 hsm1 3 (by decide) k1_t16_loop k1_t16_ok (by decide) k1_off22
    (fun k => congrArg (fun n => ![3, n]) (col16 k.val (lt_of_lt_of_eq k.isLt (by decide)))) k1_off22_inb _
    (fun _ => View.loadsAt_vmem h_S1x16) (fun _ => View.stores_vmem_bits_univ h_S1x16 rfl) (fun _ _ => rfl)
    k1_t17_loop k1_t17_ok (by decide) k1_off23
    (fun k => congrArg (fun n => ![3, n]) (col16 k.val (lt_trans (lt_of_lt_of_eq k.isLt (show _ = 255 by decide)) (by decide)))) k1_off23_inb
    (broadcast S16 3#32) (fun _ => rfl) _ (fun _ => View.loadsAt_vmem h_S1x16) (View.stores_vmem_bits_univ h_S4x4096 rfl) (k1_chk15.dec _) (fun _ _ => rfl)
    ![3, 4080] rfl inb_S4x4096_S1x16_3_4080 (f := u12) hu12) $$ [HM1 HN1]
  · isplitl [HM1] <;> iassumption
  iintro %u13 %l13 %hu13 HM1 HN1
  iapply (wp_start_out d i KM r1 (Memref.isWhole_whole _) b1 cc1_scratch7.sem 1 t.val (by decide) ht
    (k1_off24 i t) (off24_eq i t) (k1_off24_inb i t) g1 hg1 hf1 hu13) $$ [HM1 Hq1 HF1]
  · isplitl [HM1]; · iexact HM1
    isplitl [Hq1] <;> iassumption
  iintro Ho1
  rw [← bind_pure (dite (k1_cond4 t = 1#1) _ _)]
  iapply (wp_next_in d i KM b1 (Memref.isWhole_whole _) (by decide) cc1_scratch5.sem 1 t.val (by decide) (k1_cond4 t = 1#1) (cond4_iff t)
    (k1_off25 i t) (off25_eq i t) (k1_off25_inb i t) g1) $$ [HN1 Hs1 HK1]
  · isplitl [HN1]; · iexact HN1
    isplitl [Hs1] <;> iassumption
  iintro Hi1
  simp only [Prog.bind_ret, Prog.pure_eq_ret]
  rw [wp_ret]
  imodintro
  rw [outSt_pos d i KM _ _ 0 (t.val + 1) (Nat.succ_ne_zero _), outSt_pos d i KM _ _ 1 (t.val + 1) (Nat.succ_ne_zero _)]
  isplitl [Hi0]; · iexact Hi0
  isplitl [Hi1]; · iexact Hi1
  isplitl [Ho0]; · iexact Ho0
  isplitl [Ho1] <;> iassumption

end Pass

end Cert.Proof.Main
-- ==== Proof.Tile.lean ====
/-
  The whole run of one tile: two copies started, four passes, the last two copies out awaited. From its rows of the
  k-mer array and of the output it hands back the same rows, the output holding the histograms of the k-mers.
-/
module

public import proofs.«01_k».proof.Proof.Pass

@[expose] public section

noncomputable section

namespace Cert.Proof.Main

open Cert.KernelIdeal Cert.KernelIdeal.Gen Cert.Proof.Hist
open Idealize.ShloMosaic
open Idealize.ShloMosaic.SparseCore (S V T)
open Idealize.ShloMosaic.SparseCore.Cfg (HIx Pay ownCells ownRefs ownBufs ownSems0 mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "kW" => (Memref.whole main_v1_scv)
local notation "oW" => (Memref.whole main_v2_scv)
local notation "b0" => (Memref.whole cc1_scratch0)
local notation "b1" => (Memref.whole cc1_scratch1)
local notation "r0" => (Memref.whole cc1_scratch2)
local notation "r1" => (Memref.whole cc1_scratch3)

section Tile

variable (d : Dev nD) (i : grid1.Coords)

/-- The four copies' semaphores are among the tile's own. -/
theorem ownSems0_V :
    (ownSems0 (thr d i) : sProp 𝕄)
      = iprop(semVal (thr d i, .dma cc1_scratch4.sem) 0 ∗ semVal (thr d i, .dma cc1_scratch5.sem) 0
          ∗ semVal (thr d i, .dma cc1_scratch6.sem) 0 ∗ semVal (thr d i, .dma cc1_scratch7.sem) 0
          ∗ bigSep (((((ownCells (thr d i)).erase (thr d i, .dma cc1_scratch4.sem)).erase (thr d i, .dma cc1_scratch5.sem)).erase
              (thr d i, .dma cc1_scratch6.sem)).erase (thr d i, .dma cc1_scratch7.sem)) fun g => semVal g 0) := by
  have hm : ∀ sm : DmaSem sig, (SemLoc.dma sm : SemLoc sig).isScoped .scVector = true → ((thr d i, .dma sm) : GSem nD τ sig) ∈ ownCells (thr d i) :=
    fun sm h => mem_ownCells.mpr ⟨rfl, h⟩
  have hne : ∀ {a b : DmaSem sig}, a ≠ b → ((thr d i, .dma a) : GSem nD τ sig) ≠ (thr d i, .dma b) :=
    fun h e => h (by injection e with _ e; injection e)
  have n54 : (cc1_scratch5.sem : DmaSem sig) ≠ cc1_scratch4.sem := by decide
  have n64 : (cc1_scratch6.sem : DmaSem sig) ≠ cc1_scratch4.sem := by decide
  have n65 : (cc1_scratch6.sem : DmaSem sig) ≠ cc1_scratch5.sem := by decide
  have n74 : (cc1_scratch7.sem : DmaSem sig) ≠ cc1_scratch4.sem := by decide
  have n75 : (cc1_scratch7.sem : DmaSem sig) ≠ cc1_scratch5.sem := by decide
  have n76 : (cc1_scratch7.sem : DmaSem sig) ≠ cc1_scratch6.sem := by decide
  unfold SparseCore.Cfg.ownSems0
  rw [SparseCore.bigSep_erase' (hm cc1_scratch4.sem (by decide)),
    SparseCore.bigSep_erase' (Finset.mem_erase.mpr ⟨hne n54, hm cc1_scratch5.sem (by decide)⟩),
    SparseCore.bigSep_erase' (Finset.mem_erase.mpr ⟨hne n65, Finset.mem_erase.mpr ⟨hne n64, hm cc1_scratch6.sem (by decide)⟩⟩),
    SparseCore.bigSep_erase' (Finset.mem_erase.mpr ⟨hne n76, Finset.mem_erase.mpr ⟨hne n75, Finset.mem_erase.mpr ⟨hne n74, hm cc1_scratch7.sem (by decide)⟩⟩⟩)]

/-- The tile as a processor. -/
abbrev pr : Proc τ := .scVector ((i 0).castLE hcore1) ((i 1).castLE hsub1)

/-- The tile's own buffers but its four scratch buffers. -/
abbrev restRefs : Finset (DevRef τ sig) :=
  ((((ownRefs (τ := τ) (pr i)).erase ((pr i).devRef cc1_scratch0)).erase ((pr i).devRef cc1_scratch1)).erase
    ((pr i).devRef cc1_scratch2)).erase ((pr i).devRef cc1_scratch3)

/-- The four scratch buffers are among the tile's own. -/
theorem ownBufs_V :
    (ownBufs (thr d i) : sProp 𝕄)
      = iprop((∃ f, (b0).view.loc (thr d i) ↦{fullShare} f) ∗ (∃ f, (b1).view.loc (thr d i) ↦{fullShare} f)
          ∗ (∃ f, (r0).view.loc (thr d i) ↦{fullShare} f) ∗ (∃ f, (r1).view.loc (thr d i) ↦{fullShare} f)
          ∗ bigSep (restRefs i) fun b => iprop(∃ f, ((d, b) : Loc nD τ sig) ↦{fullShare} f)) := by
  have hm : ∀ b : Ref sig .scVector, ((pr i).devRef b).owner = .proc (pr i) → (pr i).devRef b ∈ ownRefs (τ := τ) (pr i) :=
    fun b h => SparseCore.Cfg.mem_ownRefs_of_owner h
  have hne : ∀ {a b : Ref sig .scVector}, a ≠ b → (pr i).devRef a ≠ (pr i).devRef b :=
    fun h e => h (Proc.devRef_injective _ e)
  have n10 : (cc1_scratch1 : Ref sig .scVector) ≠ cc1_scratch0 := by decide
  have n20 : (cc1_scratch2 : Ref sig .scVector) ≠ cc1_scratch0 := by decide
  have n21 : (cc1_scratch2 : Ref sig .scVector) ≠ cc1_scratch1 := by decide
  have n30 : (cc1_scratch3 : Ref sig .scVector) ≠ cc1_scratch0 := by decide
  have n31 : (cc1_scratch3 : Ref sig .scVector) ≠ cc1_scratch1 := by decide
  have n32 : (cc1_scratch3 : Ref sig .scVector) ≠ cc1_scratch2 := by decide
  unfold SparseCore.Cfg.ownBufs
  refine (SparseCore.bigSep_erase' (hm cc1_scratch0 rfl)).trans ?_
  rw [SparseCore.bigSep_erase' (Finset.mem_erase.mpr ⟨hne n10, hm cc1_scratch1 rfl⟩),
    SparseCore.bigSep_erase' (Finset.mem_erase.mpr ⟨hne n21, Finset.mem_erase.mpr ⟨hne n20, hm cc1_scratch2 rfl⟩⟩),
    SparseCore.bigSep_erase' (Finset.mem_erase.mpr ⟨hne n32, Finset.mem_erase.mpr ⟨hne n31, Finset.mem_erase.mpr ⟨hne n30, hm cc1_scratch3 rfl⟩⟩⟩)]

variable (KM : Buf (Elt F) ((kW).view.loc (thr d i)))

/-- What a tile is given: its rows of the k-mer array and of the output. -/
def TileIn : sProp 𝕄 :=
  iprop(((kW).view.loc (thr d i) ↦[tset (wOf i) 0]{fullShare} KM) ∗ ((kW).view.loc (thr d i) ↦[tset (wOf i) 1]{fullShare} KM)
    ∗ (∃ f, (oW).view.loc (thr d i) ↦[tset (wOf i) 0]{fullShare} f) ∗ ∃ f, (oW).view.loc (thr d i) ↦[tset (wOf i) 1]{fullShare} f)

/-- What a tile hands back: the same rows, those of the output holding their histograms. -/
def TileOut : sProp 𝕄 :=
  iprop(((kW).view.loc (thr d i) ↦[tset (wOf i) 0]{fullShare} KM) ∗ ((kW).view.loc (thr d i) ↦[tset (wOf i) 1]{fullShare} KM)
    ∗ ((oW).view.loc (thr d i) ↦[tset (wOf i) 0]{fullShare} histOf KM) ∗ ((oW).view.loc (thr d i) ↦[tset (wOf i) 1]{fullShare} histOf KM))

/-- After four passes a parity's output rows all hold their histograms. -/
theorem out_done (p : ℕ) (f : Buf (Elt F) ((oW).view.loc (thr d i))) (hf : OutOK d i KM p 4 f) :
    ((oW).view.loc (thr d i) ↦[tset (wOf i) p]{fullShare} f : sProp 𝕄) = ((oW).view.loc (thr d i) ↦[tset (wOf i) p]{fullShare} histOf KM) :=
  pointsTo_congr fun x hx => hf x hx (by omega)

/-- What a subcore owes after its waits, spelt out. -/
theorem owing_eq (O : CellTallies nD τ sig (HIx 1)) (W : Waits sig (HIx 1)) :
    (Owing d i O W : sProp 𝕄) = iprop(∃ W', ⌜∀ p ∈ W', p ∈ W ∨ p.2 = none⌝ ∗ owes (thr d i) O W') := rfl

/-- One vector subcore's whole run: from its 32 rows of 6-mer indices and its 32 rows of the result, with its own buffers
    and semaphores, it ends with every one of those rows of the result at the row's counts, nothing owed that was not owed
    before, and the buffers and semaphores handed back. -/
theorem tile_body (hF : (K (F := F)).Facts) (hKM : ∀ x, (KM x : BitVec 32).toNat < 4096) (O : CellTallies nD τ sig (HIx 1)) (W : Waits sig (HIx 1)) (hO : ∀ g, O g none = 0) :
    iprop(levAts (K (F := F)).L (K (F := F)).lev ∗ TileIn d i KM ∗ scopedBufs (thr d i) ∗ scopedSems0 (thr d i) ∗ owes (thr d i) O W)
      ⊢ wp frame (wpE (defs₀ (F := F)) 𝒱₀ (thr d i) none) Set.univ
          (cc1_k i kW (Memref.isWhole_whole _) oW (Memref.isWhole_whole _) b0 (Memref.isWhole_whole _) b1 (Memref.isWhole_whole _)
            r0 (Memref.isWhole_whole _) r1 (Memref.isWhole_whole _) cc1_scratch4 cc1_scratch5 cc1_scratch6 cc1_scratch7)
          fun _ => iprop(TileOut d i KM ∗ scopedBufs (thr d i) ∗ scopedSems0 (thr d i)
            ∗ ∃ W', ⌜∀ p ∈ W', p ∈ W ∨ p.2 = none⌝ ∗ owes (thr d i) O W') := by
  simp only [cc1_k_eq_skeleton]; unfold cc1_k_skel
  simp only [Prog.lift, Prog.bind_op, Prog.bind_ret, Prog.pure_eq_ret]
  rw [(K (F := F)).scopedBufs_V hF d ((i 0).castLE hcore1) ((i 1).castLE hsub1),
    SparseCore.Cfg.scopedSems0_V (Val := Elt F) d ((i 0).castLE hcore1) ((i 1).castLE hsub1), ownSems0_V, ownBufs_V]
  unfold TileIn TileOut
  iintro ⟨#Hlv, ⟨HK0, HK1, HF0, HF1⟩, ⟨⟨%g0, HN0⟩, ⟨%g1, HN1⟩, HM0, HM1, Hbufs⟩, ⟨Hs0, Hs1, Hq0, Hq1, Hsems⟩, HO⟩
  ihave #Hmw := (Transfers.MayWaits.intro (c := thr d i) (ι := (none : HIx 1)) (O := O)
    (fun sm => (K (F := F)).mayWait_none sm hO)) $$ Hlv
  iapply (wp_start_in d i KM b0 (Memref.isWhole_whole _) (by decide) cc1_scratch4.sem 0 0 (by decide) (by decide) (k1_off1 i) (off1_eq i) (k1_off1_inb i)) $$ [HN0 Hs0 HK0]
  · isplitl [HN0]; · iexact HN0
    isplitl [Hs0] <;> iassumption
  iintro Hi0 HK0
  iapply (wp_start_in d i KM b1 (Memref.isWhole_whole _) (by decide) cc1_scratch5.sem 1 0 (by decide) (by decide) (k1_off2 i 4#32) (off2_eq i) (k1_off2_inb i 0)) $$ [HN1 Hs1 HK1]
  · isplitl [HN1]; · iexact HN1
    isplitl [Hs1] <;> iassumption
  iintro Hi1 HK1
  iapply (Scf.wp_for_bind frame (wpE (defs₀ (F := F)) 𝒱₀ (thr d i) none) Set.univ k1_t1_loop.lb k1_t1_loop.ub k1_t1_loop.st k1_t1_ok ⟨⟩ _
    (fun n (_ : Unit) => iprop(Transfers.MayWaits (thr d i) none O ∗ PassSt d i KM O W n)) ?step) $$ [Hi0 HK0 Hi1 HK1 HM0 HM1 Hq0 Hq1 HF0 HF1 HO]
  case step =>
    intro t u
    iintro ⟨#Hmw, HP⟩
    iapply (wp_frame_l frame (wpE (defs₀ (F := F)) 𝒱₀ (thr d i) none) Set.univ)
    isplitl []; · iexact Hmw
    iapply (wp_pass d i KM hKM O W t _)
    isplitl []; · iexact Hmw
    iexact HP
  · isplitl []; · iexact Hmw
    unfold PassSt Owing
    rw [inSt_lt d i KM _ _ 0 0 (by decide), inSt_lt d i KM _ _ 1 0 (by decide), outSt_zero d i KM _ _ 0 0 rfl, outSt_zero d i KM _ _ 1 0 rfl]
    isplitl [Hi0 HK0]; · isplitl [Hi0] <;> iassumption
    isplitl [Hi1 HK1]; · isplitl [Hi1] <;> iassumption
    isplitl [HM0 Hq0 HF0]
    · isplitl [HM0]; · iexact HM0
      isplitl [Hq0] <;> iassumption
    isplitl [HM1 Hq1 HF1]
    · isplitl [HM1]; · iexact HM1
      isplitl [Hq1] <;> iassumption
    iexists W
    isplitr
    · ipureintro; exact fun p hp => .inl hp
    · iexact HO
  iintro %u ⟨-, HP⟩
  have hT : Scf.trips k1_t1_loop.lb k1_t1_loop.ub k1_t1_loop.st = 4 := trips1
  rw [hT]
  unfold PassSt
  rw [inSt_end d i KM _ _ 0 4 (by decide), inSt_end d i KM _ _ 1 4 (by decide), outSt_pos d i KM _ _ 0 4 (by decide), outSt_pos d i KM _ _ 1 4 (by decide)]
  icases HP with ⟨⟨HN0, Hs0, HK0⟩, ⟨HN1, Hs1, HK1⟩, Ho0, Ho1, HO⟩
  iapply (wp_wait_out d i KM r0 cc1_scratch6.sem 0 4 (O := O) (W := W)) $$ [Ho0 HO]
  · isplitl []; · iexact Hmw
    isplitl [Ho0] <;> iassumption
  iintro %f0 %q0 %hf0 HM0 Hq0 HF0 HO
  iapply (wp_wait_out d i KM r1 cc1_scratch7.sem 1 4 (O := O) (W := W)) $$ [Ho1 HO]
  · isplitl []; · iexact Hmw
    isplitl [Ho1] <;> iassumption
  iintro %f1 %q1 %hf1 HM1 Hq1 HF1 HO
  rw [wp_ret]; imodintro
  ihave HF0 := (Entails.of_eq (out_done d i KM 0 f0 hf0)) $$ HF0
  ihave HF1 := (Entails.of_eq (out_done d i KM 1 f1 hf1)) $$ HF1
  isplitl [HK0 HK1 HF0 HF1]
  · isplitl [HK0]; · iexact HK0
    isplitl [HK1]; · iexact HK1
    isplitl [HF0] <;> iassumption
  isplitl [HN0 HN1 HM0 HM1 Hbufs]
  · isplitl [HN0]; · iexact HN0
    isplitl [HN1]; · iexact HN1
    isplitl [HM0]; · iexists q0; iexact HM0
    isplitl [HM1]; · iexists q1; iexact HM1
    iexact Hbufs
  isplitl [Hs0 Hs1 Hq0 Hq1 Hsems]
  · isplitl [Hs0]; · iexact Hs0
    isplitl [Hs1]; · iexact Hs1
    isplitl [Hq0]; · iexact Hq0
    isplitl [Hq1] <;> iassumption
  iapply (Entails.of_eq (owing_eq d i O W)); iexact HO

end Tile

end Cert.Proof.Main
-- ==== Proof.Kmers.lean ====
/-
  The 6-mer indices the TensorCore call leaves: a function of the transposed input array, every value of it below 4096.
-/
module

public import proofs.«01_k».proof.Proof.Base
public import Idealize.ShloMosaic.Lib.PointwiseCore

@[expose] public section

noncomputable section

namespace Cert.Proof.Main

open Idealize.ShloMosaic Idealize.ShloMosaic.TcCoe Idealize.SL.Sem
open Cert.KernelIdeal Cert.KernelIdeal.Gen

variable {F : FTy → Type} [FloatOps F]

/-- The nucleotide of one position as the TensorCore kernel picks it: which of the four channels is the largest, by two
    comparisons of pairs and one between the pairs' maxima, the earlier channel where they are equal. -/
def digit (a b c d : F .f32) : BitVec 32 :=
  Scalar.select (FloatOps.cmpf .ogt (FloatOps.maximumf c d) (FloatOps.maximumf a b))
    (Scalar.select (FloatOps.cmpf .ogt (FloatOps.maximumf c d) c) 3#32 2#32)
    (Scalar.select (FloatOps.cmpf .ogt (FloatOps.maximumf a b) a) 1#32 0#32)

/-- Two neighbouring nucleotides of a row as one index. -/
def pairAt (g : Nat → BitVec 32) (n : Nat) : BitVec 32 := g n * 4#32 + g (n + 1)

/-- Six neighbouring nucleotides of a row as one index, the first the most significant. -/
def kmerAt (g : Nat → BitVec 32) (n : Nat) : BitVec 32 :=
  (pairAt g n * 16#32 + pairAt g (n + 2)) * 16#32 + pairAt g (n + 4)

/-- A nucleotide is below 4. -/
theorem digit_lt (a b c d : F .f32) : (digit a b c d).toNat < 4 := by
  unfold digit Scalar.select
  split
  · split <;> decide
  · split <;> decide

/-- Where every nucleotide is below 4, six of them read in base 4, and the words do not wrap. -/
theorem kmerAt_toNat (g : Nat → BitVec 32) (hg : ∀ n, (g n).toNat < 4) (n : Nat) :
    (kmerAt g n).toNat = 1024 * (g n).toNat + 256 * (g (n + 1)).toNat + 64 * (g (n + 2)).toNat
      + 16 * (g (n + 3)).toNat + 4 * (g (n + 4)).toNat + (g (n + 5)).toNat := by
  have h0 := hg n; have h1 := hg (n + 1); have h2 := hg (n + 2); have h3 := hg (n + 3)
  have h4 := hg (n + 4); have h5 := hg (n + 5)
  unfold kmerAt pairAt
  simp only [BitVec.toNat_add, BitVec.toNat_mul, BitVec.toNat_ofNat, Nat.add_assoc, Nat.reduceAdd] at *
  omega

/-- So a 6-mer index is below 4096. -/
theorem kmerAt_lt (g : Nat → BitVec 32) (hg : ∀ n, (g n).toNat < 4) (n : Nat) : (kmerAt g n).toNat < 4096 := by
  have h0 := hg n; have h1 := hg (n + 1); have h2 := hg (n + 2); have h3 := hg (n + 3)
  have h4 := hg (n + 4); have h5 := hg (n + 5)
  rw [kmerAt_toNat g hg]
  omega

/-- A position of a row, counted round. -/
abbrev posOf (n : Nat) : Fin 4096 := ⟨n % 4096, Nat.mod_lt _ (by decide)⟩

/-- The vector of nucleotides of a block. -/
def digits (v0 v2 v4 v6 : Vec F S16x1x4096 .f32) : IVec S16x4096 32 := fun j =>
  digit (v0 (ix3 (j 0) 0 (j 1))) (v2 (ix3 (j 0) 0 (j 1))) (v4 (ix3 (j 0) 0 (j 1))) (v6 (ix3 (j 0) 0 (j 1)))

/-- A block's channel with its unit axis dropped, at an index. -/
theorem cast_at (v : Vec F S16x1x4096 .f32) (j : S16x4096.Idx) :
    shapeCast S16x4096 v shapeCasts_S16x1x4096_S16x4096 j = v (ix3 (j 0) 0 (j 1)) := by
  refine shapeCast_apply v _ j _ ?_
  rw [Shape.rowMajor_val_two, Shape.rowMajor_val_three]
  show ((j 0).val * 1 + 0) * 4096 + (j 1).val = (j 0).val * 4096 + (j 1).val
  omega

/-- A rotation of a row towards the front, at an index. -/
theorem rot_at (x : IVec S16x4096 32) (sb : BitVec 32) (k : Nat) (hk : sb.toNat + k = 4096) (hk0 : 0 < k)
    (r : Fin 16) (n : Fin 4096) :
    dynamicRotate 1 sb none x rotates_S16x4096_d1 (ix2 r n) = x (ix2 r (posOf (n.val + k))) := by
  unfold dynamicRotate
  refine congrArg x (funext fun b => ?_)
  match b with
  | ⟨0, _⟩ => rfl
  | ⟨1, _⟩ =>
    refine Fin.ext ?_
    show (n.val + 4096 - (sb.toNat + 0) % 4096) % 4096 = (n.val + k) % 4096
    omega

/-- What the TensorCore kernel stores, at an index: the 6-mer that begins at the position, the row read round. -/
theorem pay_at (v0 v2 v4 v6 : Vec F S16x1x4096 .f32) (r : Fin 16) (n : Fin 4096) :
    Gen.k0_pay1 v0 v2 v4 v6 (ix2 r n) = kmerAt (fun p => digits v0 v2 v4 v6 (ix2 r (posOf p))) n.val := by
  have hd : select (cmpf .ogt (maximumf (shapeCast S16x4096 v4 shapeCasts_S16x1x4096_S16x4096 : FVec F S16x4096 .f32) (shapeCast S16x4096 v6 shapeCasts_S16x1x4096_S16x4096))
        (maximumf (shapeCast S16x4096 v0 shapeCasts_S16x1x4096_S16x4096) (shapeCast S16x4096 v2 shapeCasts_S16x1x4096_S16x4096)))
      (select (cmpf .ogt (maximumf (shapeCast S16x4096 v4 shapeCasts_S16x1x4096_S16x4096 : FVec F S16x4096 .f32) (shapeCast S16x4096 v6 shapeCasts_S16x1x4096_S16x4096))
        (shapeCast S16x4096 v4 shapeCasts_S16x1x4096_S16x4096)) (broadcast S16x4096 3#32) (broadcast S16x4096 2#32))
      (select (cmpf .ogt (maximumf (shapeCast S16x4096 v0 shapeCasts_S16x1x4096_S16x4096 : FVec F S16x4096 .f32) (shapeCast S16x4096 v2 shapeCasts_S16x1x4096_S16x4096))
        (shapeCast S16x4096 v0 shapeCasts_S16x1x4096_S16x4096)) (broadcast S16x4096 1#32) (broadcast S16x4096 0#32))
      = digits v0 v2 v4 v6 := by
    funext j
    unfold digits digit
    rw [← cast_at v0 j, ← cast_at v2 j, ← cast_at v4 j, ← cast_at v6 j]
    rfl
  unfold Gen.k0_pay1
  dsimp only
  rw [hd]
  generalize digits v0 v2 v4 v6 = x
  have hp : ∀ k : Fin 4096, addi (muli x (broadcast S16x4096 4#32)) (dynamicRotate 1 4095#32 none x rotates_S16x4096_d1) (ix2 r k)
      = pairAt (fun p => x (ix2 r (posOf p))) k.val := fun k => by
    show x (ix2 r k) * 4#32 + dynamicRotate 1 4095#32 none x rotates_S16x4096_d1 (ix2 r k) = _
    rw [rot_at x 4095#32 1 (by decide) (by decide)]
    have hk : posOf k.val = k := Fin.ext (Nat.mod_eq_of_lt k.isLt)
    unfold pairAt
    dsimp only
    rw [hk]
  have hm : ∀ k, pairAt (fun p => x (ix2 r (posOf p))) (posOf k).val = pairAt (fun p => x (ix2 r (posOf p))) k := fun k => by
    unfold pairAt
    dsimp only
    rw [show posOf (posOf k).val = posOf k from Fin.ext (by show k % 4096 % 4096 = k % 4096; omega),
      show posOf ((posOf k).val + 1) = posOf (k + 1) from Fin.ext (by show (k % 4096 + 1) % 4096 = (k + 1) % 4096; omega)]
  generalize addi (muli x (broadcast S16x4096 4#32)) (dynamicRotate 1 4095#32 none x rotates_S16x4096_d1) = y at hp ⊢
  show (y (ix2 r n) * 16#32 + dynamicRotate 1 4094#32 none y rotates_S16x4096_d1 (ix2 r n)) * 16#32
    + dynamicRotate 1 4092#32 none y rotates_S16x4096_d1 (ix2 r n) = _
  rw [rot_at y 4094#32 2 (by decide) (by decide), rot_at y 4092#32 4 (by decide) (by decide), hp, hp, hp, hm, hm]
  rfl

/-- The nucleotide at a position of a row of the transposed array. -/
def digitOf (x : S1024x4x4096.Idx → F .f32) (r : Fin 1024) (n : Nat) : BitVec 32 :=
  digit (x (ix3 r 0 (posOf n))) (x (ix3 r 1 (posOf n))) (x (ix3 r 2 (posOf n))) (x (ix3 r 3 (posOf n)))

/-- The array of 6-mer indices. -/
def kmOf (x : S1024x4x4096.Idx → F .f32) : S1024x4096.Idx → BitVec 32 := fun j => kmerAt (digitOf x (j 0)) (j 1).val

/-- Every 6-mer index is below 4096. -/
theorem kmOf_lt (x : S1024x4x4096.Idx → F .f32) (j : S1024x4096.Idx) : (kmOf x j).toNat < 4096 :=
  kmerAt_lt _ (fun _ => digit_lt _ _ _ _) _

end Cert.Proof.Main
-- ==== Proof.Body.lean ====
/-
  The TensorCore kernel's body, run once at any two whole staging buffers: it leaves the 6-mer indices of the block it
  was handed.
-/
module

public import proofs.«01_k».proof.Proof.Kmers
public import proofs.«01_k».proof.Proof.Gen.KernelIdeal.Skeleton
public import Idealize.ShloMosaic.Lib.Pipeline.ValueKit.Geometry

@[expose] public section

noncomputable section

namespace Cert.Proof.Main

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A whole memref owned at what it reads is its buffer held. -/
theorem owns_of_whole (c : Dev nD) {sp : Space} {S : Shape} {e : EltTy} (M : Memref sig .tc sp S e) (h : M.IsWhole) (X : S.Idx → Elt F e) :
    (owns (c.tc : Thread nD τ) M fullShare X : sProp (MM F))
      = iprop(∃ f : Buf (Elt F) (M.view.loc (c.tc : Thread nD τ)), ⌜M.view.read (Elt F) f = X⌝ ∗ (M.view.loc (c.tc : Thread nD τ) ↦{fullShare} f)) := by
  obtain ⟨b, rfl, rfl, rfl, hm⟩ := h
  cases hm
  unfold owns
  simp only [Memref.view_whole, View.read_whole, View.set_whole]

/-- Channel `k` of a staged block. -/
abbrev chRect (k : Fin 4) : Rect S16x4x4096 :=
  Rect.unit (s := S16x4x4096) ![0, k.val, 0] S16x1x4096.size
    (fun a => by match a with | 0 => exact Nat.le_refl 16 | 1 => exact Nat.succ_le_of_lt k.isLt | 2 => exact Nat.le_refl 4096)

/-- What the body leaves of a staged block: the 6-mer index of every position of its rows. -/
def blockKm (X : S16x4x4096.Idx → F .f32) : S16x4096.Idx → BitVec 32 :=
  k0_pay1 (View.ld (Val := Elt F) (e' := .f32) X (chRect 0)) (View.ld (Val := Elt F) (e' := .f32) X (chRect 1))
    (View.ld (Val := Elt F) (e' := .f32) X (chRect 2)) (View.ld (Val := Elt F) (e' := .f32) X (chRect 3))

/-- From the two staging buffers held, the body runs to its return; the input's buffer is as it was, and the output's
    reads the block's 6-mer indices. -/
theorem body_run [∀ e, Nonempty (Elt F e)] (c : Dev nD) (i : grid0.Coords) (M0 : Memref sig .tc .vmem S16x4x4096 .f32) (h0 : M0.IsWhole)
    (M1 : Memref sig .tc .vmem S16x4096 .i32) (h1 : M1.IsWhole)
    (f0 : Buf (Elt F) (M0.view.loc (c.tc : Thread nD τ))) (f1 : Buf (Elt F) (M1.view.loc (c.tc : Thread nD τ))) (E : Set ℕ) (Q : PUnit → sProp (MM F)) :
    iprop((M0.view.loc (c.tc : Thread nD τ) ↦{fullShare} f0) ∗ (M1.view.loc (c.tc : Thread nD τ) ↦{fullShare} f1)
      ∗ (∀ g : Buf (Elt F) (M1.view.loc (c.tc : Thread nD τ)), (M1.view.loc (c.tc : Thread nD τ) ↦{fullShare} g) -∗ (M0.view.loc (c.tc : Thread nD τ) ↦{fullShare} f0)
          -∗ ⌜M1.view.read (Elt F) g = blockKm (M0.view.read (Elt F) f0)⌝ -∗ Q ⟨⟩))
    ⊢ wp frame (wpE (defs₀ (F := F)) 𝒱₀ c none) E (cc0__kmer_tc_body (F := F) i M0 h0 M1 h1) Q := by
  rw [cc0__kmer_tc_body_eq_skeleton]
  unfold cc0__kmer_tc_body_skel
  iintro ⟨H0, H1, Hk⟩
  sl_exec!
  sl_step
  iapply Hk $$ [H1] [H0] []
  · iexact H1
  · iexact H0
  · ipureintro
    refine (View.read_writes_junk_eq_canon _ _).trans ?_
    unfold body_run.sl.H1_1
    rw [View.canon_cons_unit_lit _ _ _ (by decide)]
    rfl

/-! ## A block of the input array -/

/-- Block `t` of the transposed array, as a staged block. -/
def blkOf (x : S1024x4x4096.Idx → F .f32) (t : Fin 64) : S16x4x4096.Idx → F .f32 := fun j =>
  x (ix3 ⟨16 * t.val + (j 0).val, by have h : (j 0).val < 16 := (j 0).isLt; omega⟩ (j 1) (j 2))

/-- The 6-mer indices of a block are the array's at the block's rows. -/
theorem blockKm_at (x : S1024x4x4096.Idx → F .f32) (t : Fin 64) (r : Fin 16) (n : Fin 4096) :
    blockKm (blkOf x t) (ix2 r n) = kmOf x (ix2 (⟨16 * t.val + r.val, by omega⟩ : Fin 1024) n) := by
  have hl : ∀ (k : Fin 4) (p : Nat), View.ld (Val := Elt F) (e' := .f32) (blkOf x t) (chRect k) (ix3 r 0 (posOf p))
      = x (ix3 (⟨16 * t.val + r.val, by omega⟩ : Fin 1024) k (posOf p)) := fun k p => by
    refine congrArg x (funext fun a => Fin.ext ?_)
    match a with
    | ⟨0, _⟩ => show 16 * t.val + (0 + 1 * r.val) = 16 * t.val + r.val; omega
    | ⟨1, _⟩ => show k.val + 1 * 0 = k.val; omega
    | ⟨2, _⟩ => show 0 + 1 * (p % 4096) = p % 4096; omega
  unfold blockKm
  rw [pay_at]
  refine congrArg (kmerAt · n.val) (funext fun p => ?_)
  show digit _ _ _ _ = _
  erw [hl 0 p, hl 1 p, hl 2 p, hl 3 p]
  rfl

end Cert.Proof.Main
-- ==== Proof.Region.lean ====
/-
  The TensorCore kernel's call as one step of @main: entered with every unscoped buffer of the TensorCore held at some
  contents and the TensorCore's standing debts to the SparseCores, left with the result array at the 6-mer indices of the
  transposed array and everything else as it was.
-/
module

public import proofs.«01_k».proof.Proof.Body
public import Idealize.ShloMosaic.Lib.Pipeline.RegionsLoop

@[expose] public section

noncomputable section

namespace Cert.Proof.Main

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- The unscoped buffers' contents on each device's TensorCore. -/
abbrev Contents (F : FTy → Type) : Type := (c : Dev nD) → (b : Ref sig .tc) → Buf (Elt F) ((c.tc : Thread nD τ).loc b)

variable (V : Contents F)

/-- The transposed array at a valuation. -/
abbrev xOf (c : Dev nD) : S1024x4x4096.Idx → F .f32 := V c main_v0

/-- The pairs the TensorCore may have recorded when the call begins: those below every later call's. -/
def recs (c : Dev nD) : Set (SemLoc sig × HIx 1) :=
  {p | (K (F := F)).lev ((c.tc : Thread nD τ), p.1) p.2 ≤ 8 * 0}

/-- The call's proof data: the two arrays as held; after the body the input's buffer as fetched and the output's at its
    6-mer indices; the TensorCore's debts to the SparseCores unchanged throughout. -/
def dat (c : Dev nD) : Dat τ (Elt F) (HIx 1) ℕ UU ℕ cfg0 c where
  A w := V c (Pipeline.arrRef spec0 w)
  after w t := match w with
    | ⟨0, _⟩ => blkOf (xOf V c) t
    | ⟨1, _⟩ => blockKm (blkOf (xOf V c) t)
  Φ _ := Pipeline.scopedRest (Ix := HIx 1) (Name := ℕ) (U := UU) (Lvl := ℕ) (Val := Elt F) spec0 c
  q _ := fullShare
  owed _ := (K (F := F)).Otc c 0
  recorded _ := recs (F := F) c

variable (adm : (p : Fin 1) → (pcfgs (F := F) p).Adm)

/-- The family of proof data the launch is over, of its one call. -/
def pdats : (p : Fin 1) → (c : Dev nD) → Dat τ (Elt F) (HIx 1) ℕ UU ℕ (Pipeline.pin (pcfgs (F := F)) adm p) c
  | ⟨0, _⟩ => fun c => dat V c

theorem idx0 : ∀ t : Fin cfg0.N, win0_0.index t = ![t.val, 0, 0] := by decide +kernel
theorem idx1 : ∀ t : Fin cfg0.N, win0_1.index t = ![t.val, 0] := by decide +kernel

/-- What the fetch at a point stages is that block of the transposed array. -/
theorem before_in (c : Dev nD) (t : Fin cfg0.N) (d : (cfg0.win 0).block.Idx → Elt F (cfg0.win 0).elt) :
    (dat V c).before 0 t d = blkOf (xOf V c) t := by
  rw [(dat V c).before_fetched 0 t (fetch0_0 t) d]
  funext j
  show ((cfg0.win 0).blk t).view.read (Elt F) (V c main_v0) j = blkOf (xOf V c) t j
  unfold blkOf
  blk_ext [idx0]

/-- The body at a point, from the two staging buffers and the invariant to the same at what the body left. -/
theorem body_obligation [∀ e, Nonempty (Elt F e)] (c : Dev nD) :
    BodyObligation (dat V c) (defs₀ (F := F)) 𝒱₀ none Set.univ := fun t => by
  rw [bigSep_W0, bigSep_W0]
  have h0 : ((cfg0.win 0).stage (cfg0.slots t 0)).IsWhole := stage_whole0 0 _
  have h1 : ((cfg0.win 1).stage (cfg0.slots t 1)).IsWhole := stage_whole0 1 _
  rw [show (dat V c).Φ t.succ = (dat V c).Φ t.castSucc from rfl,
    show (dat V c).owesAt none t.succ = (dat V c).owesAt none t.castSucc from rfl]
  iintro ⟨HΦ, Howes, ⟨%d0, H0⟩, ⟨%d1, H1⟩⟩
  ihave H0 := (Entails.of_eq (owns_of_whole c _ h0 _)) $$ H0
  ihave H1 := (Entails.of_eq (owns_of_whole c _ h1 _)) $$ H1
  icases H0 with ⟨%f0, %e0, H0⟩
  icases H1 with ⟨%f1, -, H1⟩
  iapply (body_run c (grid0.coords t) _ h0 _ h1 f0 f1 Set.univ _)
  isplitl [H0]; · iexact H0
  isplitl [H1]; · iexact H1
  iintro %g H1 H0 %hg
  isplitl [HΦ]; · iexact HΦ
  isplitl [Howes]; · iexact Howes
  isplitl [H0]
  · iapply (Entails.of_eq (owns_of_whole c _ h0 _).symm)
    iexists f0
    isplitr; · ipureintro; exact e0.trans (before_in V c t d0)
    iexact H0
  · iapply (Entails.of_eq (owns_of_whole c _ h1 _).symm)
    iexists g
    isplitr; · ipureintro; exact hg.trans (congrArg blockKm (e0.trans (before_in V c t d0)))
    iexact H1

/-- The result array after the call: the 6-mer indices of the transposed array. -/
theorem arr_out (c : Dev nD) : (dat V c).arrAt 1 cfg0.N = kmOf (xOf V c) := by
  refine (dat V c).arrAt_eq_of_covers 1 _ (by decide +kernel) fun t _ y => ?_
  blk_simp
  have hy : y = ix2 (y 0) (y 1) := by funext a; match a with | ⟨0, _⟩ => rfl | ⟨1, _⟩ => rfl
  refine (congrArg (blockKm (blkOf (xOf V c) t)) hy).trans ((blockKm_at (xOf V c) t (y 0) (y 1)).trans ?_)
  refine congrArg (kmOf (xOf V c)) ?_
  blk_ext [idx1]

/-- The contents after the call. -/
def after (c : Dev nD) (b : Ref sig .tc) : Buf (Elt F) ((c.tc : Thread nD τ).loc b) :=
  if h : b = main_v1 then h ▸ kmOf (xOf V c) else V c b

theorem after_out (c : Dev nD) : after V c main_v1 = kmOf (xOf V c) := by unfold after; rw [dif_pos rfl]
theorem after_ne (c : Dev nD) (b : Ref sig .tc) (h : b ≠ main_v1) : after V c b = V c b := by unfold after; rw [dif_neg h]

/-- What the TensorCore owes the SparseCores before their call. -/
abbrev tcOwes (c : Dev nD) : sProp (MM F) :=
  iprop(∃ W, ⌜(K (F := F)).WBelow (T c) W (8 * 0)⌝ ∗ owes (T c) ((K (F := F)).Otc c 0) W)

theorem Otc_none (c : Dev nD) (g : GSem nD τ sig) : (K (F := F)).Otc (N := 1) c 0 g none = 0 := by
  by_contra h
  have := (K (F := F)).lev_of_Otc_pos (N := 1) (Nat.pos_of_ne_zero h)
  exact absurd this (by simp [SparseCore.Cfg.lev])

set_option backward.isDefEq.respectTransparency.types false in
/-- The call as a region: in, the two arrays are split out of the unscoped buffers, out, they are put back. -/
def reg [∀ e, Nonempty (Elt F e)] : Pipeline.RegionSeg (pcfgs (F := F)) adm (pdats V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ none 0 c fun w s t => (K (F := F)).mayWait_none _ (Otc_none c)
  pre c := iprop(unscopedBufs c (V c) ∗ tcOwes (F := F) c)
  post c := iprop(unscopedBufs c (after V c) ∗ tcOwes (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none,
      show (pdats V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (after V c) ((pdats V adm 0 c).arrAt · cfg0.N)
      (fun w => by
        fin_cases w
        · exact ((pdats V adm 0 c).arrAt_in 0 rfl _).trans (after_ne V c main_v0 (by decide)).symm
        · exact (arr_out V c).trans (after_out V c).symm)
      (fun b hb => after_ne V c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Cert.Proof.Main
-- ==== Proof.Payload.lean ====
/-
  What the SparseCore call carries to each tile and back: the tile's own rows of the k-mer array and of the result.
-/
module

public import proofs.«01_k».proof.Proof.Tile
public import proofs.«01_k».proof.Proof.Region
public import Idealize.ShloMosaic.Lib.SparseCore.Quiescent

@[expose] public section

noncomputable section

namespace Cert.Proof.Main

open Cert.KernelIdeal Cert.KernelIdeal.Gen Cert.Proof.Hist
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The arrays of the run -/

abbrev xLoc (d : Dev nD) : Loc nD τ sig := (SparseCore.T d).loc main_arg0
abbrev kLoc (d : Dev nD) : Loc nD τ sig := (SparseCore.T d).loc main_v1
abbrev oLoc (d : Dev nD) : Loc nD τ sig := (SparseCore.T d).loc main_v2

variable (m : (ℓ : Loc nD τ sig) → Buf (Elt F) ℓ)

/-- The argument's two inner axes exchanged. -/
def swapped (x : S1024x4096x4.Idx → F .f32) : S1024x4x4096.Idx → F .f32 :=
  transpose S1024x4x4096 [0, 2, 1] x transposes_S1024x4096x4_S1024x4x4096_0_2_1

/-- The k-mer array of the launch's argument. -/
def kmOfMem (d : Dev nD) : S1024x4096.Idx → BitVec 32 := kmOf (swapped (m (xLoc d)))

/-! ## Splitting an array among the tiles -/

/-- A tile's coordinates. -/
def coordsV (c : Fin (grid1.bound 0)) (s : Fin (grid1.bound 1)) : grid1.Coords :=
  fun | 0 => c | 1 => s | ⟨_ + 2, h⟩ => absurd h (Nat.not_lt.2 (Nat.le_add_left _ _))

/-- The rows of one tile of one parity, the tile by SparseCore and subcore. -/
def share (t : Fin 2 × Fin 16 × Fin 2) : Finset S1024x4096.Idx := tset (t.2.1.val * 2 + t.1.val) t.2.2.val

theorem share_disjoint : ∀ t ∈ (Finset.univ : Finset (Fin 2 × Fin 16 × Fin 2)), ∀ t' ∈ (Finset.univ : Finset (Fin 2 × Fin 16 × Fin 2)),
    t ≠ t' → Disjoint (share t) (share t') := by
  rintro ⟨c, s, p⟩ - ⟨c', s', p'⟩ - h
  refine Finset.disjoint_left.mpr fun x h1 h2 => h ?_
  obtain ⟨e1, e2⟩ := mem_tset.mp h1
  obtain ⟨e3, e4⟩ := mem_tset.mp h2
  dsimp only at e1 e2 e3 e4
  have := c.isLt; have := c'.isLt
  exact Prod.ext (Fin.ext (by dsimp only; omega)) (Prod.ext (Fin.ext (by dsimp only; omega)) (Fin.ext (by dsimp only; omega)))

theorem share_cover : (Finset.univ : Finset (Fin 2 × Fin 16 × Fin 2)).biUnion share = Finset.univ := by
  refine Finset.eq_univ_iff_forall.mpr fun x => Finset.mem_biUnion.mpr ?_
  have hx : (x 0).val < 1024 := (x 0).isLt
  refine ⟨(⟨(x 0).val / 32 % 2, by omega⟩, ⟨(x 0).val / 32 / 2, by omega⟩, ⟨(x 0).val / 4 % 2, by omega⟩), Finset.mem_univ _, mem_tset.mpr ⟨?_, rfl⟩⟩
  dsimp only; omega

omit [FloatOps F] in
/-- An array held whole is every tile's two shares of it. -/
theorem split_shares (ℓ : Loc nD τ sig) (KS : Fin 2 × Fin 16 × Fin 2 → Finset (Idx ℓ)) (f : Buf (Elt F) ℓ)
    (hd : ∀ t ∈ (Finset.univ : Finset (Fin 2 × Fin 16 × Fin 2)), ∀ t' ∈ (Finset.univ : Finset (Fin 2 × Fin 16 × Fin 2)), t ≠ t' → Disjoint (KS t) (KS t'))
    (hc : (Finset.univ : Finset (Fin 2 × Fin 16 × Fin 2)).biUnion KS = Finset.univ) :
    (ℓ ↦{fullShare} f : sProp 𝕄)
      = bigSep Finset.univ fun c : Fin 2 => bigSep Finset.univ fun s : Fin 16 =>
          iprop((ℓ ↦[KS (c, s, 0)]{fullShare} f) ∗ ℓ ↦[KS (c, s, 1)]{fullShare} f) := by
  have h := pointsTo_biUnion (Ix := HIx 1) (Name := ℕ) (U := UU) (Lvl := ℕ) (q := fullShare) (f := f) Finset.univ (ℓ := ℓ) KS hd
  rw [hc] at h
  refine h.trans ?_
  rw [← Finset.univ_product_univ, SparseCore.bigSep_product]
  refine bigSep_congr fun c _ => ?_
  rw [← Finset.univ_product_univ, SparseCore.bigSep_product]
  exact bigSep_congr fun s _ => BI.bigSep_fin_two _

/-! ## The payloads -/

/-- The call takes every tile's shares of the k-mer array and of the result, and brings them back with the result's at
    their histograms. -/
def P : (K (F := F)).Pay (nD := nD) (Val := Elt F) (Name := ℕ) (U := UU) where
  st := fun q d c => match q with
    | 0 => bigSep Finset.univ fun s : Fin 16 => TileIn d (coordsV c s) (kmOfMem m d)
  dn := fun q d c => match q with
    | 0 => bigSep Finset.univ fun s : Fin 16 => TileOut d (coordsV c s) (kmOfMem m d)
  go := fun q d c s => match q with
    | 0 => TileIn d (coordsV c s) (kmOfMem m d)
  td := fun q d c s => match q with
    | 0 => TileOut d (coordsV c s) (kmOfMem m d)
  x := fun _ _ => iprop(emp)

instance TileIn_storable (d : Dev nD) (i : grid1.Coords) (KM) : BI.Storable (upEmb : UEmb _ 𝕄) (TileIn d i KM) := by
  unfold TileIn; infer_instance

instance TileOut_storable (d : Dev nD) (i : grid1.Coords) (KM) : BI.Storable (upEmb : UEmb _ 𝕄) (TileOut d i KM) := by
  unfold TileOut; infer_instance

instance P_storable : (P (F := F) m).IsStorable where
  st q d c := match q with
    | 0 => by
      haveI : ∀ s : Fin 16, BI.Storable (upEmb : UEmb _ 𝕄) (TileIn d (coordsV c s) (kmOfMem m d)) := fun s => TileIn_storable d _ _
      exact BI.Storable.bigSep _ Finset.univ fun s : Fin 16 => (TileIn d (coordsV c s) (kmOfMem m d) : sProp 𝕄)
  dn q d c := match q with
    | 0 => by
      haveI : ∀ s : Fin 16, BI.Storable (upEmb : UEmb _ 𝕄) (TileOut d (coordsV c s) (kmOfMem m d)) := fun s => TileOut_storable d _ _
      exact BI.Storable.bigSep _ Finset.univ fun s : Fin 16 => (TileOut d (coordsV c s) (kmOfMem m d) : sProp 𝕄)
  go q d c s := match q with
    | 0 => TileIn_storable d (coordsV c s) (kmOfMem m d)
  td q d c s := match q with
    | 0 => TileOut_storable d (coordsV c s) (kmOfMem m d)

/-- One tile's shares of both arrays make what it is given. -/
theorem tileIn_of (d : Dev nD) (c : Fin 2) (s : Fin 16) (KM : S1024x4096.Idx → BitVec 32) (f : Buf (Elt F) (oLoc d)) :
    iprop(((kLoc d ↦[share (c, s, 0)]{fullShare} KM) ∗ kLoc d ↦[share (c, s, 1)]{fullShare} KM)
        ∗ (oLoc d ↦[share (c, s, 0)]{fullShare} f) ∗ oLoc d ↦[share (c, s, 1)]{fullShare} f)
      ⊢ (TileIn d (coordsV c s) KM : sProp 𝕄) := by
  unfold TileIn
  iintro ⟨⟨Hk0, Hk1⟩, Ho0, Ho1⟩
  isplitl [Hk0]; · iexact Hk0
  isplitl [Hk1]; · iexact Hk1
  isplitl [Ho0]
  · iexists f; iexact Ho0
  · iexists f; iexact Ho1

/-- What a tile hands back is its shares of both arrays. -/
theorem of_tileOut (d : Dev nD) (c : Fin 2) (s : Fin 16) (KM : S1024x4096.Idx → BitVec 32) :
    (TileOut d (coordsV c s) KM : sProp 𝕄)
      ⊢ iprop(((kLoc d ↦[share (c, s, 0)]{fullShare} KM) ∗ kLoc d ↦[share (c, s, 1)]{fullShare} KM)
        ∗ (oLoc d ↦[share (c, s, 0)]{fullShare} histOf KM) ∗ oLoc d ↦[share (c, s, 1)]{fullShare} histOf KM) := by
  unfold TileOut
  iintro ⟨Hk0, Hk1, Ho0, Ho1⟩
  isplitl [Hk0 Hk1]
  · isplitl [Hk0]; · iexact Hk0
    iexact Hk1
  isplitl [Ho0]; · iexact Ho0
  iexact Ho1

/-- The two arrays held whole are every tile's shares of both. -/
theorem both_shares (d : Dev nD) (KM : S1024x4096.Idx → BitVec 32) (f : Buf (Elt F) (oLoc d)) :
    (iprop((kLoc d ↦{fullShare} KM) ∗ oLoc d ↦{fullShare} f) : sProp 𝕄)
      = bigSep Finset.univ fun c : Fin 2 => bigSep Finset.univ fun s : Fin 16 =>
          iprop(((kLoc d ↦[share (c, s, 0)]{fullShare} KM) ∗ kLoc d ↦[share (c, s, 1)]{fullShare} KM)
            ∗ (oLoc d ↦[share (c, s, 0)]{fullShare} f) ∗ oLoc d ↦[share (c, s, 1)]{fullShare} f) := by
  rw [split_shares (F := F) (kLoc d) share KM share_disjoint share_cover,
    split_shares (F := F) (oLoc d) share f share_disjoint share_cover, ← bigSep_sep']
  exact bigSep_congr fun c _ => (bigSep_sep' _ _ _).symm

/-- The two arrays held whole are what the call takes. -/
theorem start_split (d : Dev nD) (f : Buf (Elt F) (oLoc d)) :
    iprop((kLoc d ↦{fullShare} kmOfMem m d) ∗ oLoc d ↦{fullShare} f)
      ⊢ (bigSep Finset.univ fun c : Fin ((K (F := F)).nCore 0) => (P m).st 0 d c : sProp 𝕄) :=
  (Entails.of_eq (both_shares d _ f)).trans
    (BI.bigSep_mono fun c _ => BI.bigSep_mono fun s _ => tileIn_of d c s _ f)

/-- What the call brings back is the two arrays whole, the result at the histograms. -/
theorem done_join (d : Dev nD) :
    (bigSep Finset.univ fun c : Fin ((K (F := F)).nCore 0) => (P m).dn 0 d c : sProp 𝕄)
      ⊢ iprop((kLoc d ↦{fullShare} kmOfMem m d) ∗ oLoc d ↦{fullShare} histOf (kmOfMem m d)) :=
  (BI.bigSep_mono fun c _ => BI.bigSep_mono fun s _ => of_tileOut d c s _).trans
    (Entails.of_eq (both_shares d _ _).symm)

/-! ## The launch's obligations of the tiles -/

theorem defs₀_vector (c : Fin τ.nSC) (s : Fin τ.nSub) :
    defs₀ (F := F) (.scVector c s) 1 ()
      = SparseCore.onTile hcore1 hsub1 (fun c s => cc1_k (coordsV c s) (Memref.whole main_v1_scv) (Memref.isWhole_whole _)
          (Memref.whole main_v2_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) cc1_scratch4 cc1_scratch5 cc1_scratch6 cc1_scratch7) ⟨⟩ c s := rfl

/-- A wait of the plain kind is one the launch lets a tile make. -/
theorem waits_weaken {t : Thread nD τ} {A B C : sProp 𝕄} {O : CellTallies nD τ sig (HIx 1)} {W : Waits sig (HIx 1)} {R : SemLoc sig × HIx 1 → Prop} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ R p⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem drop_second {A B C : sProp 𝕄} : iprop(A ∗ B ∗ C) ⊢ iprop(A ∗ C) := by
  iintro ⟨HA, -, HC⟩
  isplitl [HA] <;> iassumption

/-- Every tile runs its part of the call. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  refine (drop_second (A := levAts (K (F := F)).L (K (F := F)).lev)).trans ((tile_body (F := F) d (coordsV ⟨_, hc.1⟩ ⟨_, hc.2⟩) (kmOfMem m d) facts (kmOf_lt (swapped (F := F) (m (xLoc d)))) O W hO).trans (wp_mono frame _ _ fun _ => waits_weaken))

/-- A SparseCore's part of the call is its tiles' parts. -/
theorem vecSplit : (K (F := F)).VecSplit' (P m) 0 := by
  intro d c
  change (bigSep Finset.univ fun s : Fin 16 => TileIn d (coordsV c s) (kmOfMem m d) : sProp 𝕄)
    ⊢ |={Set.univ}=> iprop((bigSep Finset.univ fun s : Fin 16 => TileIn d (coordsV c s) (kmOfMem m d))
      ∗ ((bigSep Finset.univ fun s : Fin 16 => TileOut d (coordsV c s) (kmOfMem m d))
        -∗ bigSep Finset.univ fun s : Fin 16 => TileOut d (coordsV c s) (kmOfMem m d)))
  iintro H
  imodintro
  isplitl [H]; · iexact H
  iintro H; iexact H

end Cert.Proof.Main
-- ==== Proof.Launch.lean ====
/-
  The whole program's run, at every float model: @main transposes the argument, runs the TensorCore kernel and then the
  SparseCore kernel, and ends with the argument as it was and the result at the histograms of the argument's 6-mers.
-/
module

public import proofs.«01_k».proof.Proof.Payload
public import Idealize.ShloMosaic.Lib.Pipeline.Frame

@[expose] public section

noncomputable section

namespace Cert.Proof.Main

open Cert.KernelIdeal Cert.KernelIdeal.Gen Cert.Proof.Hist
open Idealize.ShloMosaic Idealize.ShloMosaic.TcCoe Idealize.ShloMosaic.StableHlo
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (ρ : Dev nD → PrngReg)

/-! ## The ghost state the run starts from -/

/-- The call has no tables to admit. -/
abbrev adm₀ : (p : Fin 1) → (pcfgs (F := F) p).Adm := fun p => (cfgs p).toPCfg_adm

/-- The pipeline's share of the ghost state on one device. -/
def G (d : Dev nD) : sProp 𝕄 :=
  iprop(Pipeline.cellsGhost (nD := nD) (τ := τ) (Pipeline.pin (pcfgs (F := F)) adm₀) EP 0 d
    ∗ Pipeline.toksInit (nD := nD) (τ := τ) (Pipeline.pin (pcfgs (F := F)) adm₀) EP 0 d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- The two protocols' shares of it are owned apart. -/
theorem ownU_apart (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- A family over the one call is its member there. -/
theorem one_call (Φ : Fin 1 → Dev nD → sProp 𝕄) :
    (bigSep Finset.univ fun d : Dev nD => bigSep Finset.univ fun p : Fin 1 => Φ p d) = bigSep Finset.univ (Φ 0) :=
  bigSep_congr fun _ _ => bigSep_univ_of_subsingleton (0 : Fin 1)

theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun t : Thread nD τ => bigSep Finset.univ fun q : Fin 1 => (P m).x q t) := by
  unfold u₀
  iintro Hu
  ihave H := (ownU_apart (F := F) _ _) $$ Hu
  icases H with ⟨HH, HP⟩
  imod (Pipeline.fund_ghost (nD := nD) (τ := τ) cfgs (EP (F := F)) cellOf_inj) $$ HP with ⟨Hc, Ht⟩
  imodintro
  isplitl [HH]; · iexact HH
  isplitl [Hc Ht]
  · unfold G
    rw [bigSep_sep']
    isplitl [Hc]
    · iapply (Entails.of_eq (one_call (F := F) _)); iexact Hc
    · iapply (Entails.of_eq (one_call (F := F) _)); iexact Ht
  unfold P; dsimp only
  rw [show (bigSep Finset.univ fun _ : Thread nD τ => bigSep Finset.univ fun _ : Fin 1 => (iprop(emp) : sProp 𝕄)) = iprop(emp) from
    (bigSep_congr fun _ _ => all_emp _).trans (all_emp _)]
  iempintro

/-! ## @main on the TensorCore -/

/-- The transposition. -/
abbrev opT : HloOp τ sig (Elt F) :=
  StableHlo.unary main_arg0 main_v0 ((transpose S1024x4x4096 [0, 2, 1] · transposes_S1024x4096x4_S1024x4x4096_0_2_1) :
    (⟨S1024x4096x4, .f32⟩ : BufTy).Contents (Elt F) → (⟨S1024x4x4096, .f32⟩ : BufTy).Contents (Elt F))

/-- The launch's valuation and the one after the transposition. -/
def V0 (d : Dev nD) : Valuation τ sig (Elt F) := fun b => m (d, b)
def V1 : Contents F := fun d b => (opT (F := F)).result (V0 m d) (Proc.devRef .tc b)

theorem V1_arg (d : Dev nD) : V1 m d main_arg0 = m (xLoc d) :=
  StableHlo.unary_result_ne (x := main_arg0) (y := main_v0) _ _ _ (V0 m d) (r := main_arg0) (by decide)

theorem V1_x (d : Dev nD) : xOf (V1 m) d = swapped (m (xLoc d)) :=
  StableHlo.unary_result' (x := main_arg0) (y := main_v0) _ _ _ (V0 m d)

theorem unscopedBufs_eq (d : Dev nD) (W : (b : Ref sig .tc) → Buf (Elt F) ((d.tc : Thread nD τ).loc b)) :
    (unscopedBufs d W : sProp 𝕄)
      = iprop((xLoc d ↦{fullShare} W main_arg0) ∗ ((SparseCore.T d).loc main_v0 ↦{fullShare} W main_v0)
          ∗ (kLoc d ↦{fullShare} W main_v1) ∗ oLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- What the SparseCore call is entered with, from what the TensorCore call leaves. -/
theorem after_split (d : Dev nD) :
    (unscopedBufs d (after (V1 m) d) : sProp 𝕄)
      ⊢ iprop((xLoc d ↦{fullShare} m (xLoc d)) ∗ bigSep Finset.univ fun c : Fin ((K (F := F)).nCore 0) => (P m).st 0 d c) := by
  rw [unscopedBufs_eq, after_out, after_ne _ d main_arg0 (by decide), after_ne _ d main_v2 (by decide), V1_arg, V1_x]
  iintro ⟨Hx, -, Hk, Ho⟩
  isplitl [Hx]; · iexact Hx
  iapply (start_split m d _)
  isplitl [Hk]; · iexact Hk
  iexact Ho

/-- What @main leaves the claim: the argument as launched, the result at the histograms. -/
abbrev FIN (d : Dev nD) : sProp 𝕄 :=
  iprop((xLoc d ↦{fullShare} m (xLoc d)) ∗ oLoc d ↦{fullShare} histOf (kmOfMem m d))

/-- The TensorCore's position in the handshakes before the call, what it owes aside. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄) = iprop(tcOwes (F := F) d ∗ tcRest d) := rfl

/-- The TensorCore kernel's call, over the labels of the TensorCore kernels alone. -/
def regionCall : Prog (TpuEff nD τ sig (Elt F) (ΛP (F := F)) .tc) PUnit :=
  .op (.customCall (Pipeline.entry (0 : Fin 1)) ()) .ret

theorem lift_call : (Prog.lift (.customCall (SparseCore.inner (Pipeline.entry (0 : Fin 1))) ())
      : Prog (TpuEff nD τ sig (Elt F) (SparseCore.Sig (ΛP (F := F)) 1) .tc) PUnit) = SparseCore.liftProg regionCall := rfl

/-- The TensorCore kernel's call as @main makes it. -/
theorem wp_region [∀ e, Nonempty (Elt F e)] (d : Dev nD) (Φ : PUnit → sProp 𝕄) :
    iprop(boundary (SparseCore.T d) ∗ unscopedBufs d (V1 m d) ∗ tcOwes (F := F) d ∗ levAts (K (F := F)).L (K (F := F)).lev ∗ G d
        ∗ (iprop(boundary (SparseCore.T d) ∗ unscopedBufs d (after (V1 m) d) ∗ tcOwes (F := F) d) -∗ Φ ⟨⟩))
      ⊢ wp frame (wpE ((K (F := F)).defs (D (F := F))) 𝒱 (SparseCore.T d) none) Set.univ
          (Prog.lift (.customCall (SparseCore.inner (Pipeline.entry 0)) ())) Φ := by
  rw [lift_call]
  refine BIBase.Entails.trans ?_ ((K (F := F)).wp_liftProg (D (F := F)) 𝒱 (SparseCore.T d) Set.univ none regionCall Φ)
  unfold regionCall
  refine BIBase.Entails.trans ?_ (Pipeline.RegionSeg.wp (pcfgs (F := F)) adm₀ (pdats (V1 m) adm₀) none cellOf_inj EP defs₀ 𝒱₀ (K (F := F)).L (K (F := F)).lev
    (reg (V1 m) adm₀) d none (fun _ h => nomatch h) .ret Φ)
  unfold G
  iintro ⟨Hb, Hub, HO, Hl, ⟨Hc, Ht⟩, Hk⟩
  isplitl [Hk]
  · iintro ⟨Hb, Hpost⟩
    rw [wp_ret]; imodintro
    iapply Hk
    isplitl [Hb]; · iexact Hb
    iapply (Entails.of_eq (show (reg (V1 m) adm₀).post d = iprop(unscopedBufs d (after (V1 m) d) ∗ tcOwes (F := F) d) from rfl))
    iexact Hpost
  isplitl [Hb]; · iexact Hb
  isplitl [Hub HO]
  · iapply (Entails.of_eq (show iprop(unscopedBufs d (V1 m d) ∗ tcOwes (F := F) d) = (reg (V1 m) adm₀).pre d from rfl))
    isplitl [Hub] <;> iassumption
  isplitl [Hl]; · iexact Hl
  isplitl [Hc]; · iexact Hc
  iexact Ht

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d)
    from Pipeline.unscopedBufs_held d (V0 m d)]
  simp only [main, wp_bind, wp_pure]
  iintro ⟨#Hctx, Hst, ⟨Hb, Hheld, Hts, -⟩, HG⟩
  iapply (wp_hlo_within 𝒱 (SparseCore.T d) none Set.univ (op := opT) (S := Pipeline.ucRefs τ sig)
    (Pipeline.sub_ucRefs _ (show ({Proc.devRef .tc main_arg0, Proc.devRef .tc main_v0} : Finset (DevRef τ sig)) ⊆ tcRefs τ sig by decide)) (V := V0 m d)) $$ [Hb Hheld]
  · isplitl [Hb] <;> iassumption
  iintro ⟨Hb, Hheld⟩
  ihave Hub := (Entails.of_eq (Pipeline.unscopedBufs_held d ((opT (F := F)).result (V0 m d))).symm) $$ Hheld
  rw [wp_ret]; imodintro
  ihave Hst := (Entails.of_eq (tcSt_zero (F := F) d)) $$ Hst
  icases Hst with ⟨HO, Hrest⟩
  ihave #Hlev := (SparseCore.Cfg.ctx_levAts (K := K (F := F)) (P := P m) (EH := EH) κ) $$ Hctx
  iapply (wp_region m d _)
  isplitl [Hb]; · iexact Hb
  isplitl [Hub]; · iexact Hub
  isplitl [HO]; · iexact HO
  isplitr; · iexact Hlev
  isplitl [HG]; · iexact HG
  iintro ⟨Hb, Hub, HO⟩
  ihave H := (after_split m d) $$ Hub
  icases H with ⟨Hx, Hin⟩
  ihave Hst := (Entails.of_eq (tcSt_zero (F := F) d).symm) $$ [HO Hrest]
  · isplitl [HO] <;> iassumption
  iapply ((K (F := F)).wp_run (D (F := F)) 𝒱 (EH := EH) (P := P m) κ d 0) $$ [Hst Hx Hin Hb Hts]
  isplitr; · iexact Hctx
  isplitl [Hst]; · iexact Hst
  isplitl [Hin]; · iexact Hin
  iintro ⟨Hst, Hdn⟩
  ihave H := (done_join m d) $$ Hdn
  icases H with ⟨-, Ho⟩
  imodintro
  isplitl [Hst]; · iexact Hst
  isplitl [Hx Ho]
  · isplitl [Hx]; · iexact Hx
    iexact Ho
  isplitl [Hb] <;> iassumption

/-! ## The program's run -/

/-- The argument as launched and the result at the histograms of its 6-mers. -/
def fq (d : Dev nD) (s' : Phys nD τ sig (Elt F)) : Prop :=
  s'.mem.mem (xLoc d) = m (xLoc d) ∧ s'.mem.mem (oLoc d) = histOf (kmOfMem m d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := histOf (kmOfMem m d))) $$ [HSI Ho]
  · isplitl [HSI] <;> iassumption
  icases H with %h2
  ipureintro; exact ⟨funext fun i => h1 i (Finset.mem_univ i), funext fun i => h2 i (Finset.mem_univ i)⟩

/-- What holds when the program has ended. -/
def Ends : PUnit × MemSt nD τ sig (Elt F) → Prop := fun r =>
  (∀ c : Dev nD, r.2.mem (xLoc c) = m (xLoc c) ∧ r.2.mem (oLoc c) = histOf (kmOfMem m c)) ∧ r.2.sem = fun _ => 0

/-- Every run of the program ends, with the argument as launched, the result at the histograms of its 6-mers, and every
    semaphore at zero. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (Ends m) (fun _ h hz => ⟨h, hz⟩)

end Cert.Proof.Main
-- ==== Proof.RefValue.lean ====
/-
  What the reference computes, as plain functions of its argument: the nucleotide of each position by an arg-max over the
  four channels, the 6-mer indices as a sum of six slices, and the histogram as a scatter-add of ones. Each stage is read
  at an index, up to `result_eq`: over the extended reals the reference's result is `histOf` of the kernel's 6-mer array.
-/
module

public import proofs.«01_k».proof.Proof.Payload
public import proofs.«01_k».proof.Proof.Gen.ReferenceIdeal
public import Idealize.ShloMosaic.PureOps.Ideal.Laws
public import Idealize.ShloMosaic.Lib.Routing.OpsPair
public import Idealize.ShloMosaic.Lib.Routing.Shapes

@[expose] public section

noncomputable section

namespace Cert.Proof.Ref

open Cert.ReferenceIdeal Cert.ReferenceIdeal.Gen Idealize.ShloMosaic

/-- The nucleotide of every position. -/
def bases (x : S1024x4096x4.Idx → Ideal .f32) : S1024x4096.Idx → BitVec 32 := fun j =>
  (Host.argReduce reducer_argmax_f32_i32 x (iotaInDim S1024x4096x4 32 2) (constant S_ .f32 0xFF800000#32) (constantI S_ 32 0#32)
    Facts₀.reducesTo_S1024x4096x4_S1024x4096_d2 Facts₀.h_S_ j).2

/-- A word at every place of a 1024x4091 array. -/
def fill (v : BitVec 32) : S1024x4091.Idx → BitVec 32 :=
  broadcastInDim S1024x4091 ![] Facts₀.bcast_S_S1024x4091 (constantI S_ 32 v)

/-- A word in every row of a column. -/
def fillCol (v : BitVec 32) : S1024x1.Idx → BitVec 32 :=
  broadcastInDim S1024x1 ![] Facts₀.bcast_S_S1024x1 (constantI S_ 32 v)

/-- The columns from `p` on, times a power of four. -/
def term (b : S1024x4096.Idx → BitVec 32) (p : Nat) (h : S1024x4096.Slices ![0, p] S1024x4091) (v : BitVec 32) :
    S1024x4091.Idx → BitVec 32 :=
  muli (extractStridedSlice S1024x4091 ![0, p] b h) (fill v)

/-- The 6-mer indices. -/
def kmers (b : S1024x4096.Idx → BitVec 32) : S1024x4091.Idx → BitVec 32 :=
  addi (addi (addi (addi (addi (addi (fill 0#32)
    (term b 0 Facts₀.slices_S1024x4096_S1024x4091_0_0 1024#32))
    (term b 1 Facts₀.slices_S1024x4096_S1024x4091_0_1 256#32))
    (term b 2 Facts₀.slices_S1024x4096_S1024x4091_0_2 64#32))
    (term b 3 Facts₀.slices_S1024x4096_S1024x4091_0_3 16#32))
    (term b 4 Facts₀.slices_S1024x4096_S1024x4091_0_4 4#32))
    (term b 5 Facts₀.slices_S1024x4096_S1024x4091_0_5 1#32)

/-- The row numbers as a column. -/
def rows : S1024x1.Idx → BitVec 32 := broadcastInDim S1024x1 ![0] Facts₀.bcast_S1024_S1024x1_0 (iotaInDim S1024 32 0)

/-- The two index words of every update: its row and its 6-mer, a negative one counted from the end. -/
def words (k : S1024x4091.Idx → BitVec 32) : S1024x4091x2.Idx → BitVec 32 :=
  concatenate S1024x4091x2 2
    [⟨S1024x4091x1, broadcastInDim S1024x4091x1 ![0, 1] Facts₀.bcast_S1024x4091_S1024x4091x1_0_1
        (broadcastInDim S1024x4091 ![0, 1] Facts₀.bcast_S1024x1_S1024x4091_0_1
          (select (cmpi .slt rows (fillCol 0#32)) (addi rows (fillCol 1024#32)) rows))⟩,
      ⟨S1024x4091x1, broadcastInDim S1024x4091x1 ![0, 1] Facts₀.bcast_S1024x4091_S1024x4091x1_0_1
        (select (cmpi .slt k (fill 0#32)) (addi k (fill 4096#32)) k)⟩]
    Facts₀.concatenates_S1024x4091x1_S1024x4091x1_S1024x4091x2_d2

/-- The reference's result. -/
def result (x : S1024x4096x4.Idx → Ideal .f32) : S1024x4096.Idx → Ideal .f32 :=
  Host.scatterAdd scatter_S1024x4096_S1024x4091x2_S1024x4091_n_01_01_2
    (broadcastInDim S1024x4096 ![] Facts₀.bcast_S_S1024x4096 (constant S_ .f32 0x00000000#32))
    (words (kmers (bases x)))
    (broadcastInDim S1024x4091 ![] Facts₀.bcast_S_S1024x4091 (constant S_ .f32 0x3F800000#32))

/-! ## The arg-max of four channels -/

/-- The positions whose quotient by four is `q`, in order: the four of them. -/
theorem filter_quarter {N q : Nat} (p : Fin N → Prop) [DecidablePred p] (hp : ∀ n, p n ↔ n.val / 4 = q)
    (n0 n1 n2 n3 : Fin N) (h0 : n0.val = 4 * q) (h1 : n1.val = 4 * q + 1) (h2 : n2.val = 4 * q + 2)
    (h3 : n3.val = 4 * q + 3) : (List.finRange N).filter (fun n => p n) = [n0, n1, n2, n3] := by
  have hs : ((List.finRange N).filter (fun n => decide (p n))).Pairwise (· < ·) := (List.pairwise_lt_finRange N).filter _
  refine List.Perm.eq_of_pairwise (le := (· < ·)) (fun a b _ _ h h' => absurd h' (not_lt.2 h.le)) hs ?_ ?_
  · simp only [List.pairwise_cons, List.mem_cons, List.not_mem_nil, Fin.lt_def]
    refine ⟨?_, ?_, ?_, ?_, ?_⟩ <;> simp [h0, h1, h2, h3]
  · refine (List.perm_ext_iff_of_nodup ((List.nodup_finRange N).filter _) ?_).2 fun n => ?_
    · simp [Fin.ext_iff, h0, h1, h2, h3]
    · simp only [List.mem_filter, List.mem_finRange, true_and, decide_eq_true_eq, hp, List.mem_cons, List.not_mem_nil,
        or_false, Fin.ext_iff, h0, h1, h2, h3]
      omega

/-- One step of the arg-max: the later channel wins only if it is the greater. -/
theorem reducer_step (v w : Ideal .f32) (i k : BitVec 32) (h : v = w → IntOp.cmpi .slt i k = 1#1 ∨ i = k) :
    reducer_argmax_f32_i32 (v, i) (w, k) = (max v w, if (v : EReal) < w then k else i) := by
  have e : ∀ c d : BitVec 32, Scalar.select 1#1 c d = c := fun _ _ => rfl
  unfold reducer_argmax_f32_i32
  simp only [Ideal.cmpf_def, Ideal.cmp]
  rcases lt_trichotomy (v : EReal) w with hv | hv | hv
  · simp [hv, hv.ne, not_lt.2 hv.le, max_eq_right hv.le, IntOp.ori, IntOp.andi, Scalar.select]
  · subst hv
    rcases h rfl with h | h
    · simp [h, IntOp.ori, IntOp.andi, Scalar.select]
    · subst h
      simp [IntOp.ori, IntOp.andi, Scalar.select]
  · simp [hv, hv.ne', not_lt.2 hv.le, max_eq_left hv.le, IntOp.ori, IntOp.andi, Scalar.select]

/-- Picking the first greatest of four one after another, and by two pairs. -/
theorem first_greatest {α β : Type} [LinearOrder α] (a b c d : α) (w x y z : β) :
    (if max (max a b) c < d then z else if max a b < c then y else if a < b then x else w)
      = if max a b < max c d then (if c < max c d then z else y) else if a < max a b then x else w := by
  simp only [lt_max_iff, max_lt_iff, lt_self_iff_false, false_or]
  by_cases hab : a < b <;> by_cases hcd : c < d <;> by_cases hac : a < c <;> by_cases hbc : b < c <;>
    by_cases had : a < d <;> by_cases hbd : b < d <;> simp [hab, hcd, hac, hbc, had, hbd] <;> order

/-- A flag is set when its proposition holds. -/
theorem ofBool_iff {α : Type} (p : Prop) [Decidable p] (x y : α) :
    (if BitVec.ofBool (decide p) = 1 then x else y) = if p then x else y := by
  by_cases h : p <;> simp [h]

/-- The fold over the four channels, from minus infinity, picks the nucleotide that the kernel picks. -/
theorem fold_digit (a b c d : Ideal .f32) :
    (([(a, 0#32), (b, 1#32), (c, 2#32), (d, 3#32)] : List (Ideal .f32 × BitVec 32)).foldl reducer_argmax_f32_i32 (⊥, 0#32)).2
      = Main.digit a b c d := by
  have h1 : reducer_argmax_f32_i32 ((⊥ : Ideal .f32), 0#32) (a, 0#32) = (a, 0#32) := by
    rw [reducer_step _ _ _ _ fun _ => .inr rfl, ite_self, max_eq_right bot_le]
  have h2 := reducer_step a b 0#32 1#32 fun _ => .inl (by decide)
  have h3 := reducer_step (max a b) c (if (a : EReal) < b then 1#32 else 0#32) 2#32 fun _ => .inl (by split <;> decide)
  have h4 := reducer_step (max (max a b) c) d (if (max a b : EReal) < c then 2#32 else if (a : EReal) < b then 1#32 else 0#32)
    3#32 fun _ => .inl (by split <;> [decide; (split <;> decide)])
  simp only [List.foldl_cons, List.foldl_nil]
  rw [h1, h2, h3, h4]
  unfold Main.digit
  simp only [Scalar.select]
  show _ = if BitVec.ofBool (decide ((max a b : EReal) < max c d)) = 1 then
      (if BitVec.ofBool (decide ((c : EReal) < max c d)) = 1 then 3#32 else 2#32)
    else if BitVec.ofBool (decide ((a : EReal) < max a b)) = 1 then 1#32 else 0#32
  rw [ofBool_iff, ofBool_iff, ofBool_iff]
  exact first_greatest (α := EReal) a b c d _ _ _ _

/-- Where the four channels of a position lie in row-major order. -/
theorem channel_pos (r : Fin 1024) (n : Fin 4096) (k : Fin 4) :
    (S1024x4096x4.rowMajor (ix3 r n k)).val = 4 * (r.val * 4096 + n.val) + k.val := by
  rw [Shape.rowMajor_val_three]
  show (r.val * 4096 + n.val) * 4 + k.val = _
  omega

/-- Which positions reduce to a given one: its four channels. -/
theorem channel_iff (r : Fin 1024) (n : Fin 4096) (k : Fin S1024x4096x4.numel) :
    Facts₀.reducesTo_S1024x4096x4_S1024x4096_d2.drop (S1024x4096x4.rowMajor.symm k) = ix2 r n
      ↔ k.val / 4 = r.val * 4096 + n.val := by
  have hr := r.isLt
  have hn := n.isLt
  obtain ⟨i, rfl⟩ := S1024x4096x4.rowMajor.surjective k
  rw [Equiv.symm_apply_apply, Shape.rowMajor_val_three]
  have h0 : (i 0).val < 1024 := (i 0).isLt
  have h1 : (i 1).val < 4096 := (i 1).isLt
  have h2 : (i 2).val < 4 := (i 2).isLt
  show _ ↔ (((i 0).val * 4096 + (i 1).val) * 4 + (i 2).val) / 4 = _
  constructor
  · intro h
    have e0 : (i 0).val = r.val := congrArg Fin.val (congrFun h 0)
    have e1 : (i 1).val = n.val := congrArg Fin.val (congrFun h 1)
    omega
  · intro h
    funext a
    match a with
    | ⟨0, _⟩ => exact Fin.ext (show (i 0).val = r.val by omega)
    | ⟨1, _⟩ => exact Fin.ext (show (i 1).val = n.val by omega)

/-- The arg-max starts from minus infinity. -/
theorem start_bot : constant (F := Ideal) S_ .f32 0xFF800000#32 (Shape.Idx.first Facts₀.h_S_) = (⊥ : EReal) := by
  simp [constant, Ideal.ofBits, Ideal.ieee]

/-- The channels of a position, each with its number. -/
theorem channels (x : S1024x4096x4.Idx → Ideal .f32) (r : Fin 1024) (n : Fin 4096) :
    Host.argReduceFiber x (iotaInDim S1024x4096x4 32 2) Facts₀.reducesTo_S1024x4096x4_S1024x4096_d2 (ix2 r n)
      = [(x (ix3 r n 0), 0#32), (x (ix3 r n 1), 1#32), (x (ix3 r n 2), 2#32), (x (ix3 r n 3), 3#32)] := by
  obtain ⟨q, hq⟩ : ∃ q, q = r.val * 4096 + n.val := ⟨_, rfl⟩
  have hc := channel_pos r n
  rw [← hq] at hc
  have hl := filter_quarter _ (fun k => (channel_iff r n k).trans (by rw [hq])) _ _ _ _ (hc 0) (hc 1) (hc 2) (hc 3)
  unfold Host.argReduceFiber
  rw [hl]
  simp only [List.map_cons, List.map_nil, Equiv.symm_apply_apply]
  rfl

/-- The second part of a fold over pairs. -/
def foldSnd {α β : Type} (f : α × β → α × β → α × β) (l : List (α × β)) (a : α) (b : β) : β := (l.foldl f (a, b)).2

/-- An arg-max over the extended reals is a fold over what reduces to each place. -/
theorem argReduce_snd {s t u : Shape} {axes : List (Fin s.rank)} {β : Type} (f : Ideal .f32 × β → Ideal .f32 × β → Ideal .f32 × β)
    (x : s.Idx → Ideal .f32) (y : s.Idx → β) (a : u.Idx → Ideal .f32) (b : u.Idx → β) (h : s.ReducesTo axes t) (hu : 0 < u.numel) :
    (fun j => (Host.argReduce (F := Ideal) f x y a b h hu j).2)
      = fun j => foldSnd f (Host.argReduceFiber x y h j) (a (Shape.Idx.first hu)) (b (Shape.Idx.first hu)) := by
  funext j
  rw [Ideal.argReduce_eq_reduce2, Host.reduce2_eq_foldl_fiber]
  rfl

/-- The reference's nucleotides as folds. -/
theorem bases_fold (x : S1024x4096x4.Idx → Ideal .f32) : bases x = fun j =>
    foldSnd reducer_argmax_f32_i32 (Host.argReduceFiber x (iotaInDim S1024x4096x4 32 2) Facts₀.reducesTo_S1024x4096x4_S1024x4096_d2 j)
      (constant (F := Ideal) S_ .f32 0xFF800000#32 (Shape.Idx.first Facts₀.h_S_)) (constantI S_ 32 0#32 (Shape.Idx.first Facts₀.h_S_)) :=
  argReduce_snd _ _ _ _ _ _ _

/-- The reference's nucleotide is the kernel's. -/
theorem bases_at (x : S1024x4096x4.Idx → Ideal .f32) (r : Fin 1024) (n : Fin 4096) :
    bases x (ix2 r n) = Main.digit (x (ix3 r n 0)) (x (ix3 r n 1)) (x (ix3 r n 2)) (x (ix3 r n 3)) := by
  rw [bases_fold]
  show foldSnd _ _ _ _ = _
  rw [channels, start_bot]
  exact fold_digit _ _ _ _

/-! ## The 6-mer indices -/

open Routing (wrap_of_lt scatter_lands2)

/-- A slice's column, times its power. -/
theorem term_at (b : S1024x4096.Idx → BitVec 32) (p : Nat) (h : S1024x4096.Slices ![0, p] S1024x4091) (v : BitVec 32)
    (r : Fin 1024) (n : Fin 4091) (hp : p < 6) : term b p h v (ix2 r n) = b (ix2 r (Main.posOf (n.val + p))) * v := by
  have hn := n.isLt
  show b _ * v = _
  congr 2
  funext a
  match a with
  | ⟨0, _⟩ => exact Fin.ext (Nat.zero_add _)
  | ⟨1, _⟩ => exact Fin.ext (show p + n.val = (n.val + p) % 4096 by omega)

/-- Six nucleotides in base four, summed term by term, are the kernel's 6-mer index. -/
theorem sum_kmer (g0 g1 g2 g3 g4 g5 : BitVec 32) :
    0#32 + g0 * 1024#32 + g1 * 256#32 + g2 * 64#32 + g3 * 16#32 + g4 * 4#32 + g5 * 1#32
      = ((g0 * 4#32 + g1) * 16#32 + (g2 * 4#32 + g3)) * 16#32 + (g4 * 4#32 + g5) := by
  apply BitVec.eq_of_toNat_eq
  simp only [BitVec.toNat_add, BitVec.toNat_mul, BitVec.toNat_ofNat]
  omega

/-- The reference's 6-mer indices, at a row and a place. -/
theorem kmers_at (b : S1024x4096.Idx → BitVec 32) (r : Fin 1024) (n : Fin 4091) :
    kmers b (ix2 r n) = Main.kmerAt (fun i => b (ix2 r (Main.posOf i))) n.val := by
  refine Eq.trans ?_ (sum_kmer _ _ _ _ _ _)
  have t := fun p h v hp => term_at b p h v r n hp
  show 0#32 + term b 0 _ _ (ix2 r n) + term b 1 _ _ (ix2 r n) + term b 2 _ _ (ix2 r n) + term b 3 _ _ (ix2 r n)
    + term b 4 _ _ (ix2 r n) + term b 5 _ _ (ix2 r n) = _
  rw [t 0 _ _ (by omega), t 1 _ _ (by omega), t 2 _ _ (by omega), t 3 _ _ (by omega), t 4 _ _ (by omega), t 5 _ _ (by omega)]
  rfl

/-- The first index word of an update: its row. -/
theorem words_row (k : S1024x4091.Idx → BitVec 32) (r : Fin 1024) (n : Fin 4091) :
    words k (ix3 r n 0) = BitVec.ofNat 32 r.val := by
  unfold words
  pointwise
  have hr := r.isLt
  exact wrap_of_lt (BitVec.ofNat 32 r.val) _ (by rw [BitVec.toNat_ofNat]; omega)

/-- The second index word of an update: its 6-mer. -/
theorem words_kmer (k : S1024x4091.Idx → BitVec 32) (r : Fin 1024) (n : Fin 4091) (hk : (k (ix2 r n)).toNat < 4096) :
    words k (ix3 r n 1) = k (ix2 r n) := by
  unfold words
  pointwise
  exact wrap_of_lt (k (ix2 r n)) _ (by omega)

/-! ## The histogram -/

/-- A bin over the extended reals: its start plus a one for every entry that equals it. -/
theorem bump_sum (km : ℕ → ℕ) (j n : ℕ) : Hist.bump (F := Ideal) km j n
    = (Hist.zeroF (F := Ideal) : EReal) + ∑ i ∈ Finset.range n, if km i = j then (Hist.oneF (F := Ideal) : EReal) else 0 := by
  induction n with
  | zero => exact (add_zero _).symm
  | succ n ih =>
    rw [Finset.sum_range_succ, ← add_assoc, ← ih, Hist.bump]
    by_cases h : km n = j
    · rw [if_pos h, if_pos h]; rfl
    · rw [if_neg h, if_neg h]; exact (add_zero _).symm

/-- Where an update lands: in its own row, at its 6-mer. -/
theorem lands (k : S1024x4091.Idx → BitVec 32) (hk : ∀ j, (k j).toNat < 4096) (a : Fin 1024) (n : Fin 4091) (r : Fin 1024)
    (c : Fin 4096) :
    scatter_S1024x4096_S1024x4091x2_S1024x4091_n_01_01_2.resultIdx? (ix2 a n) (words k) = some (ix2 r c)
      ↔ a = r ∧ (k (ix2 a n)).toNat = c.val := by
  have hl := scatter_lands2 scatter_S1024x4096_S1024x4091x2_S1024x4091_n_01_01_2 rfl rfl rfl (words k) a n r c
  rw [← ix2_eq_valueIdx, ← ix2_eq_valueIdx, ← ix3_eq_valueIdx, ← ix3_eq_valueIdx, words_row, words_kmer k a n (hk _)] at hl
  refine hl.trans ?_
  have ha := a.isLt
  have hn := hk (ix2 a n)
  rw [BitVec.toInt_eq_toNat_of_lt (by rw [BitVec.toNat_ofNat]; omega), BitVec.toInt_eq_toNat_of_lt (by omega),
    BitVec.toNat_ofNat, Fin.ext_iff]
  omega

/-- The scatter-add of ones at the 6-mers of every row is the row's histogram, bin by bin. -/
theorem scatter_at (k : S1024x4091.Idx → BitVec 32) (hk : ∀ j, (k j).toNat < 4096) (km : ℕ → ℕ) (r : Fin 1024) (c : Fin 4096)
    (hkm : ∀ n : Fin 4091, km n.val = (k (ix2 r n)).toNat) (x : S1024x4096.Idx → Ideal .f32) (u : S1024x4091.Idx → Ideal .f32)
    (hx : x (ix2 r c) = Hist.zeroF) (hu : ∀ j, u j = Hist.oneF) :
    Host.scatterAdd (F := Ideal) (φ := .f32) scatter_S1024x4096_S1024x4091x2_S1024x4091_n_01_01_2 x (words k) u (ix2 r c)
      = Hist.bump (F := Ideal) km c.val 4091 := by
  rw [bump_sum]
  show x (ix2 r c) + ∑ j ∈ Finset.univ.filter (fun j =>
    scatter_S1024x4096_S1024x4091x2_S1024x4091_n_01_01_2.resultIdx? j (words k) = some (ix2 r c)), (u j : EReal) = _
  rw [hx]
  refine congrArg (fun s : EReal => (Hist.zeroF (F := Ideal) : EReal) + s) ?_
  rw [← Fin.sum_univ_eq_sum_range (fun i => if km i = c.val then (Hist.oneF (F := Ideal) : EReal) else 0), ← Finset.sum_filter]
  symm
  refine Finset.sum_bij (fun n _ => ix2 r n) (fun n hn => ?_) (fun n _ n' _ h => ?_) (fun j hj => ?_) (fun n _ => ?_)
  · rw [Finset.mem_filter] at hn ⊢
    exact ⟨Finset.mem_univ _, (lands k hk r n r c).2 ⟨rfl, (hkm n).symm.trans hn.2⟩⟩
  · exact ((ix2_inj _ _ _ _).1 h).2
  · obtain ⟨a, n, rfl⟩ : ∃ (a : Fin 1024) (n : Fin 4091), j = ix2 a n := ⟨j 0, j 1, eq_ix2 j⟩
    obtain ⟨rfl, h⟩ := (lands k hk a n r c).1 (Finset.mem_filter.1 hj).2
    exact ⟨n, Finset.mem_filter.2 ⟨Finset.mem_univ _, (hkm n).trans h⟩, rfl⟩
  · exact (hu _).symm

/-- The reference's result is the histogram of the kernel's 6-mer indices. -/
theorem result_eq (x : S1024x4096x4.Idx → Ideal .f32) :
    result x = Main.histOf (F := Ideal) (Main.kmOf (F := Ideal) (Main.swapped (F := Ideal) x)) := by
  have hg : ∀ (r : Fin 1024), (fun i => bases x (ix2 r (Main.posOf i))) = Main.digitOf (F := Ideal) (Main.swapped (F := Ideal) x) r := by
    intro r
    funext i
    rw [bases_at]
    unfold Main.digitOf Main.swapped
    pointwise
  have hkm : ∀ (r : Fin 1024) (n : Fin 4091), kmers (bases x) (ix2 r n)
      = Main.kmOf (F := Ideal) (Main.swapped (F := Ideal) x) (Main.atB r.val n.val) := by
    intro r n
    rw [kmers_at, hg]
    have hr := r.isLt
    have hn := n.isLt
    have e0 : (Main.atB r.val n.val) 0 = r := Fin.ext (Nat.mod_eq_of_lt hr)
    have e1 : ((Main.atB r.val n.val) 1).val = n.val := Nat.mod_eq_of_lt (by omega)
    unfold Main.kmOf
    rw [e0, e1]
  have hk : ∀ j, (kmers (bases x) j).toNat < 4096 := by
    intro j
    obtain ⟨a, n, rfl⟩ : ∃ (a : Fin 1024) (n : Fin 4091), j = ix2 a n := ⟨j 0, j 1, eq_ix2 j⟩
    rw [hkm]
    exact Main.kmOf_lt _ _
  funext j
  obtain ⟨r, c, rfl⟩ : ∃ (r : Fin 1024) (c : Fin 4096), j = ix2 r c := ⟨j 0, j 1, eq_ix2 j⟩
  exact scatter_at _ hk _ r c (fun n => congrArg BitVec.toNat (hkm r n).symm) _ _ rfl fun _ => rfl

end Cert.Proof.Ref

end
-- ==== Proof.RefRun.lean ====
/-
  The run of the reference, a straight line of host operations: its argument ends unchanged, its result is `result` of
  that argument, and no counter is left above zero (it has none).
-/
module

public import proofs.«01_k».proof.Proof.RefValue
public import Idealize.ShloMosaic.Lib.StableHlo.RunHlo

@[expose] public section

noncomputable section

namespace Cert.Proof.Ref

open Cert.ReferenceIdeal Cert.ReferenceIdeal.Gen Idealize.ShloMosaic Idealize.SL.Sem

/-- The reference's run. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, r.2.mem ((c.tc : Thread nD τ).loc main_v44) = result (m ((c.tc : Thread nD τ).loc main_arg0))
        ∧ r.2.mem ((c.tc : Thread nD τ).loc main_arg0) = m ((c.tc : Thread nD τ).loc main_arg0))
      ∧ r.2.sem = fun _ => 0 := by
  refine θ_run_mono (StableHlo.run_hlo (defs (F := Ideal)) (main (F := Ideal)) (by
    intro d
    unfold main fn_argmax.body
    simp only [bind_assoc, pure_bind]
    hlo_seq) (by decide) (by decide) (by simp)
      (by intro _ h; (repeat (cases h with | head => rfl | tail _ h => ?_)); exact nomatch h) m g) fun r hr =>
    ⟨fun c => ⟨?_, ?_⟩, ?_⟩
  · rw [hr]
    after_results
    rfl
  · rw [hr]
    after_results
  · funext x
    obtain ⟨t, s⟩ := x
    cases s with
    | reg s => exact absurd s.isLt (by simp)
    | dma s => exact absurd s.isLt (by simp)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Launch
public import proofs.«01_k».proof.Proof.RefRun
public import Idealize.ShloMosaic.Adequacy
public import Idealize.ShloMosaic.Init

@[expose] public section

noncomputable section

namespace Cert.Proof

open Idealize.ShloMosaic Idealize.SL.Sem

/-- The kernels' body tables of the two modules agree: each entry is the same text. -/
theorem bodies_eq [Cert.Kernel.Facts] [Cert.KernelIdeal.Facts] :
    Cert.Kernel.defs₀ (F := Bits) = Cert.KernelIdeal.defs₀ (F := Bits) := by
  funext p ℓ a
  match p, ℓ, a with
  | .tc, 0, (_, _) => rfl
  | .tc, 1, _ => rfl
  | .scScalar _, 0, _ => rfl
  | .scScalar _, 1, _ => rfl
  | .scVector _ _, 0, _ => rfl
  | .scVector _ _, 1, _ => rfl

/-- So do the whole programs' body tables. -/
theorem defs_eq [Cert.Kernel.Facts] [Cert.KernelIdeal.Facts] :
    Cert.Kernel.defs (F := Bits) = Cert.KernelIdeal.defs (F := Bits) :=
  congrArg (fun d => Cert.KernelIdeal.sc.defs (Pipeline.defs Cert.KernelIdeal.pcfgs d)) bodies_eq

/-- `Kernel` runs, leaves its argument as it was and every counter at zero: its program is `KernelIdeal`'s at the bit-level
    floats, whose run is proved over any floats. -/
theorem frame_kernel : Cert.quiescent_Kernel := fun m ρ _ => by
  have h : θ_run (Cert.KernelIdeal.defs (F := Bits)) (Cert.KernelIdeal.threads (F := Bits)) ⟨m, fun _ => 0, ρ⟩ fun r =>
      (∀ c : Dev Cert.KernelIdeal.nD, r.2.mem (Main.xLoc c) = m (Main.xLoc c)) ∧ r.2.sem = fun _ => 0 :=
    (θ_run Cert.KernelIdeal.defs _ _).mono (fun _ h => ⟨fun c => (h.1 c).1, h.2⟩) (Main.run_main (F := Bits) m ρ)
  rw [← defs_eq] at h
  exact h

/-- `KernelIdeal` runs, leaves its argument as it was and every counter at zero. -/
theorem frame_kernelIdeal : Cert.quiescent_KernelIdeal := fun m ρ _ =>
  (θ_run Cert.KernelIdeal.defs _ _).mono (fun _ h => ⟨fun c => (h.1 c).1, h.2⟩) (Main.run_main (F := Ideal) m ρ)

/-- `ReferenceIdeal` runs, leaves its argument as it was and every counter at zero. -/
theorem frame_referenceIdeal : Cert.quiescent_ReferenceIdeal := fun m ρ _ =>
  θ_run_mono (Ref.run m ρ) fun _ h => ⟨fun c => (h.1 c).2, h.2⟩

/-- Over the extended reals the kernel and the reference end with the same histogram. -/
theorem algebraic : Cert.algebraic_KernelIdeal_ReferenceIdeal := fun m g m' g' _ hagree =>
  ⟨fun c => Main.histOf (F := Ideal) (Main.kmOfMem m c),
    (θ_run Cert.KernelIdeal.defs _ _).mono (fun _ h c => ⟨(h.1 c).2, (h.1 c).1⟩) (Main.run_main (F := Ideal) m g),
    θ_run_mono (Ref.run m' g') fun _ h c =>
      ⟨(h.1 c).1.trans ((Ref.result_eq _).trans (congrArg
        (fun x => Main.histOf (F := Ideal) (Main.kmOf (F := Ideal) (Main.swapped (F := Ideal) x))) (hagree c))), (h.1 c).2⟩⟩

/-- Everything that is claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
